-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S16 : Shape := ⟨1, ![16]⟩
abbrev S_ : Shape := ⟨0, ![]⟩
abbrev S1 : Shape := ⟨1, ![1]⟩
abbrev S16x1 : Shape := ⟨2, ![16, 1]⟩
abbrev S34 : Shape := ⟨1, ![34]⟩
abbrev S16x4x128x256 : Shape := ⟨4, ![16, 4, 128, 256]⟩
abbrev S15x4 : Shape := ⟨2, ![15, 4]⟩
abbrev S128x128 : Shape := ⟨2, ![128, 128]⟩
abbrev S128x1024 : Shape := ⟨2, ![128, 1024]⟩
abbrev S128x256 : Shape := ⟨2, ![128, 256]⟩
abbrev S1x1x128x256 : Shape := ⟨4, ![1, 1, 128, 256]⟩
abbrev S1x1 : Shape := ⟨2, ![1, 1]⟩

abbrev nBuf : Space → Nat
  | .hbm => 144
  | .vmem => 5
  | .smem => 1
  | _ => 0

abbrev hbmTy0_0 (i : Nat) : BufTy := match i % 128 with
  | 0 => ⟨S2048x128, .f32⟩
  | 1 => ⟨S128x2048, .f32⟩
  | 2 => ⟨S16, .i32⟩
  | 3 => ⟨S16, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S_, .i32⟩
  | 69 => ⟨S16, .i32⟩
  | 70 => ⟨S_, .i32⟩
  | 71 => ⟨S_, .i32⟩
  | 72 => ⟨S16, .i32⟩
  | 73 => ⟨S16, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S16, .i32⟩
  | 81 => ⟨S16, .i32⟩
  | 82 => ⟨S_, .i32⟩
  | 83 => ⟨S16, .i32⟩
  | 84 => ⟨S16, .i1⟩
  | 85 => ⟨S_, .i32⟩
  | 86 => ⟨S16, .i32⟩
  | 87 => ⟨S16, .i1⟩
  | 88 => ⟨S_, .i32⟩
  | 89 => ⟨S_, .i1⟩
  | 90 => ⟨S16, .i1⟩
  | 91 => ⟨S16, .i1⟩
  | 92 => ⟨S16, .i1⟩
  | 93 => ⟨S16, .i32⟩
  | 94 => ⟨S16, .i32⟩
  | 95 => ⟨S16, .i32⟩
  | 96 => ⟨S_, .i32⟩
  | 97 => ⟨S16, .i32⟩
  | 98 => ⟨S16, .i1⟩
  | 99 => ⟨S_, .i32⟩
  | 100 => ⟨S16, .i32⟩
  | 101 => ⟨S16, .i32⟩
  | 102 => ⟨S16, .i32⟩
  | 103 => ⟨S16x1, .i32⟩
  | 104 => ⟨S16, .i32⟩
  | 105 => ⟨S_, .i32⟩
  | 106 => ⟨S_, .i32⟩
  | 107 => ⟨S16, .i32⟩
  | 108 => ⟨S16, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S16, .i32⟩
  | 116 => ⟨S16, .i32⟩
  | 117 => ⟨S_, .i32⟩
  | 118 => ⟨S16, .i32⟩
  | 119 => ⟨S16, .i1⟩
  | 120 => ⟨S_, .i32⟩
  | 121 => ⟨S16, .i32⟩
  | 122 => ⟨S16, .i1⟩
  | 123 => ⟨S_, .i32⟩
  | 124 => ⟨S_, .i1⟩
  | 125 => ⟨S16, .i1⟩
  | 126 => ⟨S16, .i1⟩
  | 127 => ⟨S16, .i1⟩
  | _ => ⟨S2048x128, .f32⟩

abbrev hbmTy0_1 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S16, .i32⟩
  | 12 => ⟨S1, .i32⟩
  | 13 => ⟨S1, .i32⟩
  | 14 => ⟨S34, .i32⟩
  | 15 => ⟨S128x2048, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S128x2048, .f32⟩
  | .local _ .vmem, ⟨2, _⟩ => ⟨S128x2048, .f32⟩
  | .local _ .vmem, ⟨3, _⟩ => ⟨S16x4x128x256, .bf16⟩
  | .local _ .vmem, ⟨4, _⟩ => ⟨S16x4x128x256, .bf16⟩
  | .local _ .smem, ⟨0, _⟩ => ⟨S34, .i32⟩
  | _, _ => ⟨S2048x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 244 → Bool
  | ⟨i, _⟩ => dmaSemScopedAt i

abbrev sig : RefSig :=
  (ofTc nBuf bufTy 1 244 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c_13 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_c_14 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v28 : Ref sig .tc := ⟨.hbm, 95, rfl⟩
abbrev main_c_15 : Ref sig .tc := ⟨.hbm, 96, rfl⟩
abbrev main_v29 : Ref sig .tc := ⟨.hbm, 97, rfl⟩
abbrev main_v30 : Ref sig .tc := ⟨.hbm, 98, rfl⟩
abbrev main_c_16 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_c_17 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_c_18 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_v5 : Ref sig .tc := ⟨.hbm, 118, rfl⟩
abbrev main_call3_v6 : Ref sig .tc := ⟨.hbm, 119, rfl⟩
abbrev main_call3_c_2 : Ref sig .tc := ⟨.hbm, 120, rfl⟩
abbrev main_call3_v7 : Ref sig .tc := ⟨.hbm, 121, rfl⟩
abbrev main_call3_v8 : Ref sig .tc := ⟨.hbm, 122, rfl⟩
abbrev main_call3_c_3 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_v39 : Ref sig .tc := ⟨.hbm, 130, rfl⟩
abbrev main_c_19 : Ref sig .tc := ⟨.hbm, 131, rfl⟩
abbrev main_v40 : Ref sig .tc := ⟨.hbm, 132, rfl⟩
abbrev main_v41 : Ref sig .tc := ⟨.hbm, 133, rfl⟩
abbrev main_c_20 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_off1 (v7 : BitVec 32) : Fin 2 → Nat :=
  let c128_i32 : BitVec 32 := 128#32
  let v8 : BitVec 32 := Scalar.muli v7 c128_i32
  let v9 : Index := Scalar.indexCast v8
  let c0_4 : Index := 0#32
  ![v9.toNat, 0]

def k0_chk3 (v7 : BitVec 32) : Prop :=
  (∀ a, (k0_off1 v7) a + S128x128.size a ≤ S2048x128.size a)
theorem k0_off1_inb : ∀ (v7 : BitVec 32) (k0_hw3 : k0_chk3 v7), ∀ a, (k0_off1 v7) a + S128x128.size a ≤ S2048x128.size a := fun v7 k0_hw3 => k0_hw3

def k0_off2 (v15 : BitVec 32) : Fin 2 → Nat :=
  let c128_i32_7 : BitVec 32 := 128#32
  let v16 : BitVec 32 := Scalar.muli v15 c128_i32_7
  let v17 : Index := Scalar.indexCast v16
  let c0_8 : Index := 0#32
  ![v17.toNat, 0]

def k0_chk4 (v15 : BitVec 32) : Prop :=
  (∀ a, (k0_off2 v15) a + S128x128.size a ≤ S2048x128.size a)
theorem k0_off2_inb : ∀ (v15 : BitVec 32) (k0_hw4 : k0_chk4 v15), ∀ a, (k0_off2 v15) a + S128x128.size a ≤ S2048x128.size a := fun v15 k0_hw4 => k0_hw4

def k0_dev3 (v0 : BitVec 32) : Nat :=
  let c0_i32_28 : BitVec 32 := 0#32
  let c1_i32_27 : BitVec 32 := 1#32
  let v33 : BitVec 32 := Scalar.muli v0 c1_i32_27
  let v34 : BitVec 32 := Scalar.addi c0_i32_28 v33
  v34.toNat
def k0_dev4 (v1 : BitVec 32) : Nat :=
  let c0_i32_42 : BitVec 32 := 0#32
  let c1_i32_41 : BitVec 32 := 1#32
  let v43 : BitVec 32 := Scalar.muli v1 c1_i32_41
  let v44 : BitVec 32 := Scalar.addi c0_i32_42 v43
  v44.toNat
def k0_dev5 (v0 : BitVec 32) : Nat :=
  let c0_i32_64 : BitVec 32 := 0#32
  let c1_i32_63 : BitVec 32 := 1#32
  let v63 : BitVec 32 := Scalar.muli v0 c1_i32_63
  let v64 : BitVec 32 := Scalar.addi c0_i32_64 v63
  v64.toNat
def k0_dev6 (v1 : BitVec 32) : Nat :=
  let c0_i32_78 : BitVec 32 := 0#32
  let c1_i32_77 : BitVec 32 := 1#32
  let v73 : BitVec 32 := Scalar.muli v1 c1_i32_77
  let v74 : BitVec 32 := Scalar.addi c0_i32_78 v73
  v74.toNat
def k0_dev7 (v0 : BitVec 32) : Nat :=
  let c0_i32_100 : BitVec 32 := 0#32
  let c1_i32_99 : BitVec 32 := 1#32
  let v93 : BitVec 32 := Scalar.muli v0 c1_i32_99
  let v94 : BitVec 32 := Scalar.addi c0_i32_100 v93
  v94.toNat
def k0_dev8 (v1 : BitVec 32) : Nat :=
  let c0_i32_114 : BitVec 32 := 0#32
  let c1_i32_113 : BitVec 32 := 1#32
  let v103 : BitVec 32 := Scalar.muli v1 c1_i32_113
  let v104 : BitVec 32 := Scalar.addi c0_i32_114 v103
  v104.toNat
def k0_dev9 (v0 : BitVec 32) : Nat :=
  let c0_i32_134 : BitVec 32 := 0#32
  let c1_i32_133 : BitVec 32 := 1#32
  let v123 : BitVec 32 := Scalar.muli v0 c1_i32_133
  let v124 : BitVec 32 := Scalar.addi c0_i32_134 v123
  v124.toNat
def k0_dev10 (v1 : BitVec 32) : Nat :=
  let c0_i32_148 : BitVec 32 := 0#32
  let c1_i32_147 : BitVec 32 := 1#32
  let v133 : BitVec 32 := Scalar.muli v1 c1_i32_147
  let v134 : BitVec 32 := Scalar.addi c0_i32_148 v133
  v134.toNat
def k0_off3 (v143 : BitVec 32) : Fin 2 → Nat :=
  let c128_i32_154 : BitVec 32 := 128#32
  let v144 : BitVec 32 := Scalar.muli v143 c128_i32_154
  let v145 : Index := Scalar.indexCast v144
  let c0_155 : Index := 0#32
  ![v145.toNat, 0]

def k0_chk5 (v143 : BitVec 32) : Prop :=
  (∀ a, (k0_off3 v143) a + S128x128.size a ≤ S2048x128.size a)
theorem k0_off3_inb : ∀ (v143 : BitVec 32) (k0_hw5 : k0_chk5 v143), ∀ a, (k0_off3 v143) a + S128x128.size a ≤ S2048x128.size a := fun v143 k0_hw5 => k0_hw5

def k0_off4 (v151 : BitVec 32) : Fin 2 → Nat :=
  let c128_i32_159 : BitVec 32 := 128#32
  let v152 : BitVec 32 := Scalar.muli v151 c128_i32_159
  let v153 : Index := Scalar.indexCast v152
  let c0_160 : Index := 0#32
  ![v153.toNat, 0]

def k0_chk6 (v151 : BitVec 32) : Prop :=
  (∀ a, (k0_off4 v151) a + S128x128.size a ≤ S2048x128.size a)
theorem k0_off4_inb : ∀ (v151 : BitVec 32) (k0_hw6 : k0_chk6 v151), ∀ a, (k0_off4 v151) a + S128x128.size a ≤ S2048x128.size a := fun v151 k0_hw6 => k0_hw6

def k0_dev11 (v0 : BitVec 32) : Nat :=
  let c0_i32_195 : BitVec 32 := 0#32
  let c1_i32_194 : BitVec 32 := 1#32
  let v176 : BitVec 32 := Scalar.muli v0 c1_i32_194
  let v177 : BitVec 32 := Scalar.addi c0_i32_195 v176
  v177.toNat
def k0_dev12 (v1 : BitVec 32) : Nat :=
  let c0_i32_231 : BitVec 32 := 0#32
  let c1_i32_230 : BitVec 32 := 1#32
  let v203 : BitVec 32 := Scalar.muli v1 c1_i32_230
  let v204 : BitVec 32 := Scalar.addi c0_i32_231 v203
  v204.toNat
def k0_dev13 (v0 : BitVec 32) : Nat :=
  let c0_i32_267 : BitVec 32 := 0#32
  let c1_i32_266 : BitVec 32 := 1#32
  let v230 : BitVec 32 := Scalar.muli v0 c1_i32_266
  let v231 : BitVec 32 := Scalar.addi c0_i32_267 v230
  v231.toNat
def k0_dev14 (v1 : BitVec 32) : Nat :=
  let c0_i32_303 : BitVec 32 := 0#32
  let c1_i32_302 : BitVec 32 := 1#32
  let v257 : BitVec 32 := Scalar.muli v1 c1_i32_302
  let v258 : BitVec 32 := Scalar.addi c0_i32_303 v257
  v258.toNat
def k0_dev15 (v0 : BitVec 32) : Nat :=
  let c0_i32_339 : BitVec 32 := 0#32
  let c1_i32_338 : BitVec 32 := 1#32
  let v284 : BitVec 32 := Scalar.muli v0 c1_i32_338
  let v285 : BitVec 32 := Scalar.addi c0_i32_339 v284
  v285.toNat
def k0_dev16 (v1 : BitVec 32) : Nat :=
  let c0_i32_375 : BitVec 32 := 0#32
  let c1_i32_374 : BitVec 32 := 1#32
  let v311 : BitVec 32 := Scalar.muli v1 c1_i32_374
  let v312 : BitVec 32 := Scalar.addi c0_i32_375 v311
  v312.toNat
def k0_dev17 (v0 : BitVec 32) : Nat :=
  let c0_i32_411 : BitVec 32 := 0#32
  let c1_i32_410 : BitVec 32 := 1#32
  let v338 : BitVec 32 := Scalar.muli v0 c1_i32_410
  let v339 : BitVec 32 := Scalar.addi c0_i32_411 v338
  v339.toNat
def k0_dev18 (v1 : BitVec 32) : Nat :=
  let c0_i32_447 : BitVec 32 := 0#32
  let c1_i32_446 : BitVec 32 := 1#32
  let v365 : BitVec 32 := Scalar.muli v1 c1_i32_446
  let v366 : BitVec 32 := Scalar.addi c0_i32_447 v365
  v366.toNat
def k0_off5 (v423 : BitVec 32) : Fin 2 → Nat :=
  let c128_i32_556 : BitVec 32 := 128#32
  let v424 : BitVec 32 := Scalar.muli v423 c128_i32_556
  let v425 : Index := Scalar.indexCast v424
  let c0_557 : Index := 0#32
  ![v425.toNat, 0]

def k0_chk7 (v423 : BitVec 32) : Prop :=
  (∀ a, (k0_off5 v423) a + S128x128.size a ≤ S2048x128.size a)
theorem k0_off5_inb : ∀ (v423 : BitVec 32) (k0_hw7 : k0_chk7 v423), ∀ a, (k0_off5 v423) a + S128x128.size a ≤ S2048x128.size a := fun v423 k0_hw7 => k0_hw7

def k0_off6 (v431 : BitVec 32) : Fin 2 → Nat :=
  let c128_i32_561 : BitVec 32 := 128#32
  let v432 : BitVec 32 := Scalar.muli v431 c128_i32_561
  let v433 : Index := Scalar.indexCast v432
  let c0_562 : Index := 0#32
  ![v433.toNat, 0]

def k0_chk8 (v431 : BitVec 32) : Prop :=
  (∀ a, (k0_off6 v431) a + S128x128.size a ≤ S2048x128.size a)
theorem k0_off6_inb : ∀ (v431 : BitVec 32) (k0_hw8 : k0_chk8 v431), ∀ a, (k0_off6 v431) a + S128x128.size a ≤ S2048x128.size a := fun v431 k0_hw8 => k0_hw8

def k0_dev19 (v0 : BitVec 32) : Nat :=
  let c0_i32_597 : BitVec 32 := 0#32
  let c1_i32_596 : BitVec 32 := 1#32
  let v456 : BitVec 32 := Scalar.muli v0 c1_i32_596
  let v457 : BitVec 32 := Scalar.addi c0_i32_597 v456
  v457.toNat
def k0_dev20 (v1 : BitVec 32) : Nat :=
  let c0_i32_633 : BitVec 32 := 0#32
  let c1_i32_632 : BitVec 32 := 1#32
  let v483 : BitVec 32 := Scalar.muli v1 c1_i32_632
  let v484 : BitVec 32 := Scalar.addi c0_i32_633 v483
  v484.toNat
def k0_dev21 (v0 : BitVec 32) : Nat :=
  let c0_i32_669 : BitVec 32 := 0#32
  let c1_i32_668 : BitVec 32 := 1#32
  let v510 : BitVec 32 := Scalar.muli v0 c1_i32_668
  let v511 : BitVec 32 := Scalar.addi c0_i32_669 v510
  v511.toNat
def k0_dev22 (v1 : BitVec 32) : Nat :=
  let c0_i32_705 : BitVec 32 := 0#32
  let c1_i32_704 : BitVec 32 := 1#32
  let v537 : BitVec 32 := Scalar.muli v1 c1_i32_704
  let v538 : BitVec 32 := Scalar.addi c0_i32_705 v537
  v538.toNat
def k0_dev23 (v0 : BitVec 32) : Nat :=
  let c0_i32_741 : BitVec 32 := 0#32
  let c1_i32_740 : BitVec 32 := 1#32
  let v564 : BitVec 32 := Scalar.muli v0 c1_i32_740
  let v565 : BitVec 32 := Scalar.addi c0_i32_741 v564
  v565.toNat
def k0_dev24 (v1 : BitVec 32) : Nat :=
  let c0_i32_777 : BitVec 32 := 0#32
  let c1_i32_776 : BitVec 32 := 1#32
  let v591 : BitVec 32 := Scalar.muli v1 c1_i32_776
  let v592 : BitVec 32 := Scalar.addi c0_i32_777 v591
  v592.toNat
def k0_dev25 (v0 : BitVec 32) : Nat :=
  let c0_i32_813 : BitVec 32 := 0#32
  let c1_i32_812 : BitVec 32 := 1#32
  let v618 : BitVec 32 := Scalar.muli v0 c1_i32_812
  let v619 : BitVec 32 := Scalar.addi c0_i32_813 v618
  v619.toNat
def k0_dev26 (v1 : BitVec 32) : Nat :=
  let c0_i32_849 : BitVec 32 := 0#32
  let c1_i32_848 : BitVec 32 := 1#32
  let v645 : BitVec 32 := Scalar.muli v1 c1_i32_848
  let v646 : BitVec 32 := Scalar.addi c0_i32_849 v645
  v646.toNat
def k0_off7 (v703 : BitVec 32) : Fin 2 → Nat :=
  let c128_i32_958 : BitVec 32 := 128#32
  let v704 : BitVec 32 := Scalar.muli v703 c128_i32_958
  let v705 : Index := Scalar.indexCast v704
  let c0_959 : Index := 0#32
  ![v705.toNat, 0]

def k0_chk9 (v703 : BitVec 32) : Prop :=
  (∀ a, (k0_off7 v703) a + S128x128.size a ≤ S2048x128.size a)
theorem k0_off7_inb : ∀ (v703 : BitVec 32) (k0_hw9 : k0_chk9 v703), ∀ a, (k0_off7 v703) a + S128x128.size a ≤ S2048x128.size a := fun v703 k0_hw9 => k0_hw9

def k0_off8 (v711 : BitVec 32) : Fin 2 → Nat :=
  let c128_i32_963 : BitVec 32 := 128#32
  let v712 : BitVec 32 := Scalar.muli v711 c128_i32_963
  let v713 : Index := Scalar.indexCast v712
  let c0_964 : Index := 0#32
  ![v713.toNat, 0]

def k0_chk10 (v711 : BitVec 32) : Prop :=
  (∀ a, (k0_off8 v711) a + S128x128.size a ≤ S2048x128.size a)
theorem k0_off8_inb : ∀ (v711 : BitVec 32) (k0_hw10 : k0_chk10 v711), ∀ a, (k0_off8 v711) a + S128x128.size a ≤ S2048x128.size a := fun v711 k0_hw10 => k0_hw10

def k0_dev27 (v0 : BitVec 32) : Nat :=
  let c0_i32_998 : BitVec 32 := 0#32
  let c1_i32_997 : BitVec 32 := 1#32
  let v736 : BitVec 32 := Scalar.muli v0 c1_i32_997
  let v737 : BitVec 32 := Scalar.addi c0_i32_998 v736
  v737.toNat
def k0_dev28 (v1 : BitVec 32) : Nat :=
  let c0_i32_1034 : BitVec 32 := 0#32
  let c1_i32_1033 : BitVec 32 := 1#32
  let v763 : BitVec 32 := Scalar.muli v1 c1_i32_1033
  let v764 : BitVec 32 := Scalar.addi c0_i32_1034 v763
  v764.toNat
def k0_dev29 (v0 : BitVec 32) : Nat :=
  let c0_i32_1070 : BitVec 32 := 0#32
  let c1_i32_1069 : BitVec 32 := 1#32
  let v790 : BitVec 32 := Scalar.muli v0 c1_i32_1069
  let v791 : BitVec 32 := Scalar.addi c0_i32_1070 v790
  v791.toNat
def k0_dev30 (v1 : BitVec 32) : Nat :=
  let c0_i32_1106 : BitVec 32 := 0#32
  let c1_i32_1105 : BitVec 32 := 1#32
  let v817 : BitVec 32 := Scalar.muli v1 c1_i32_1105
  let v818 : BitVec 32 := Scalar.addi c0_i32_1106 v817
  v818.toNat
def k0_dev31 (v0 : BitVec 32) : Nat :=
  let c0_i32_1142 : BitVec 32 := 0#32
  let c1_i32_1141 : BitVec 32 := 1#32
  let v844 : BitVec 32 := Scalar.muli v0 c1_i32_1141
  let v845 : BitVec 32 := Scalar.addi c0_i32_1142 v844
  v845.toNat
def k0_dev32 (v1 : BitVec 32) : Nat :=
  let c0_i32_1178 : BitVec 32 := 0#32
  let c1_i32_1177 : BitVec 32 := 1#32
  let v871 : BitVec 32 := Scalar.muli v1 c1_i32_1177
  let v872 : BitVec 32 := Scalar.addi c0_i32_1178 v871
  v872.toNat
def k0_dev33 (v0 : BitVec 32) : Nat :=
  let c0_i32_1214 : BitVec 32 := 0#32
  let c1_i32_1213 : BitVec 32 := 1#32
  let v898 : BitVec 32 := Scalar.muli v0 c1_i32_1213
  let v899 : BitVec 32 := Scalar.addi c0_i32_1214 v898
  v899.toNat
def k0_dev34 (v1 : BitVec 32) : Nat :=
  let c0_i32_1250 : BitVec 32 := 0#32
  let c1_i32_1249 : BitVec 32 := 1#32
  let v925 : BitVec 32 := Scalar.muli v1 c1_i32_1249
  let v926 : BitVec 32 := Scalar.addi c0_i32_1250 v925
  v926.toNat
def k0_off9 (v983 : BitVec 32) : Fin 2 → Nat :=
  let c128_i32_1359 : BitVec 32 := 128#32
  let v984 : BitVec 32 := Scalar.muli v983 c128_i32_1359
  let v985 : Index := Scalar.indexCast v984
  let c0_1360 : Index := 0#32
  ![v985.toNat, 0]

def k0_chk11 (v983 : BitVec 32) : Prop :=
  (∀ a, (k0_off9 v983) a + S128x128.size a ≤ S2048x128.size a)
theorem k0_off9_inb : ∀ (v983 : BitVec 32) (k0_hw11 : k0_chk11 v983), ∀ a, (k0_off9 v983) a + S128x128.size a ≤ S2048x128.size a := fun v983 k0_hw11 => k0_hw11

def k0_off10 (v991 : BitVec 32) : Fin 2 → Nat :=
  let c128_i32_1364 : BitVec 32 := 128#32
  let v992 : BitVec 32 := Scalar.muli v991 c128_i32_1364
  let v993 : Index := Scalar.indexCast v992
  let c0_1365 : Index := 0#32
  ![v993.toNat, 0]

def k0_chk12 (v991 : BitVec 32) : Prop :=
  (∀ a, (k0_off10 v991) a + S128x128.size a ≤ S2048x128.size a)
theorem k0_off10_inb : ∀ (v991 : BitVec 32) (k0_hw12 : k0_chk12 v991), ∀ a, (k0_off10 v991) a + S128x128.size a ≤ S2048x128.size a := fun v991 k0_hw12 => k0_hw12

def k0_dev35 (v0 : BitVec 32) : Nat :=
  let c0_i32_1399 : BitVec 32 := 0#32
  let c1_i32_1398 : BitVec 32 := 1#32
  let v1016 : BitVec 32 := Scalar.muli v0 c1_i32_1398
  let v1017 : BitVec 32 := Scalar.addi c0_i32_1399 v1016
  v1017.toNat
def k0_dev36 (v1 : BitVec 32) : Nat :=
  let c0_i32_1435 : BitVec 32 := 0#32
  let c1_i32_1434 : BitVec 32 := 1#32
  let v1043 : BitVec 32 := Scalar.muli v1 c1_i32_1434
  let v1044 : BitVec 32 := Scalar.addi c0_i32_1435 v1043
  v1044.toNat
def k0_dev37 (v0 : BitVec 32) : Nat :=
  let c0_i32_1471 : BitVec 32 := 0#32
  let c1_i32_1470 : BitVec 32 := 1#32
  let v1070 : BitVec 32 := Scalar.muli v0 c1_i32_1470
  let v1071 : BitVec 32 := Scalar.addi c0_i32_1471 v1070
  v1071.toNat
def k0_dev38 (v1 : BitVec 32) : Nat :=
  let c0_i32_1507 : BitVec 32 := 0#32
  let c1_i32_1506 : BitVec 32 := 1#32
  let v1097 : BitVec 32 := Scalar.muli v1 c1_i32_1506
  let v1098 : BitVec 32 := Scalar.addi c0_i32_1507 v1097
  v1098.toNat
def k0_dev39 (v0 : BitVec 32) : Nat :=
  let c0_i32_1543 : BitVec 32 := 0#32
  let c1_i32_1542 : BitVec 32 := 1#32
  let v1124 : BitVec 32 := Scalar.muli v0 c1_i32_1542
  let v1125 : BitVec 32 := Scalar.addi c0_i32_1543 v1124
  v1125.toNat
def k0_dev40 (v1 : BitVec 32) : Nat :=
  let c0_i32_1579 : BitVec 32 := 0#32
  let c1_i32_1578 : BitVec 32 := 1#32
  let v1151 : BitVec 32 := Scalar.muli v1 c1_i32_1578
  let v1152 : BitVec 32 := Scalar.addi c0_i32_1579 v1151
  v1152.toNat
def k0_dev41 (v0 : BitVec 32) : Nat :=
  let c0_i32_1615 : BitVec 32 := 0#32
  let c1_i32_1614 : BitVec 32 := 1#32
  let v1178 : BitVec 32 := Scalar.muli v0 c1_i32_1614
  let v1179 : BitVec 32 := Scalar.addi c0_i32_1615 v1178
  v1179.toNat
def k0_dev42 (v1 : BitVec 32) : Nat :=
  let c0_i32_1651 : BitVec 32 := 0#32
  let c1_i32_1650 : BitVec 32 := 1#32
  let v1205 : BitVec 32 := Scalar.muli v1 c1_i32_1650
  let v1206 : BitVec 32 := Scalar.addi c0_i32_1651 v1205
  v1206.toNat
def k0_off11 (v1263 : BitVec 32) : Fin 2 → Nat :=
  let c128_i32_1760 : BitVec 32 := 128#32
  let v1264 : BitVec 32 := Scalar.muli v1263 c128_i32_1760
  let v1265 : Index := Scalar.indexCast v1264
  let c0_1761 : Index := 0#32
  ![v1265.toNat, 0]

def k0_chk13 (v1263 : BitVec 32) : Prop :=
  (∀ a, (k0_off11 v1263) a + S128x128.size a ≤ S2048x128.size a)
theorem k0_off11_inb : ∀ (v1263 : BitVec 32) (k0_hw13 : k0_chk13 v1263), ∀ a, (k0_off11 v1263) a + S128x128.size a ≤ S2048x128.size a := fun v1263 k0_hw13 => k0_hw13

def k0_off12 (v1271 : BitVec 32) : Fin 2 → Nat :=
  let c128_i32_1765 : BitVec 32 := 128#32
  let v1272 : BitVec 32 := Scalar.muli v1271 c128_i32_1765
  let v1273 : Index := Scalar.indexCast v1272
  let c0_1766 : Index := 0#32
  ![v1273.toNat, 0]

def k0_chk14 (v1271 : BitVec 32) : Prop :=
  (∀ a, (k0_off12 v1271) a + S128x128.size a ≤ S2048x128.size a)
theorem k0_off12_inb : ∀ (v1271 : BitVec 32) (k0_hw14 : k0_chk14 v1271), ∀ a, (k0_off12 v1271) a + S128x128.size a ≤ S2048x128.size a := fun v1271 k0_hw14 => k0_hw14

def k0_dev43 (v0 : BitVec 32) : Nat :=
  let c0_i32_1800 : BitVec 32 := 0#32
  let c1_i32_1799 : BitVec 32 := 1#32
  let v1296 : BitVec 32 := Scalar.muli v0 c1_i32_1799
  let v1297 : BitVec 32 := Scalar.addi c0_i32_1800 v1296
  v1297.toNat
def k0_dev44 (v1 : BitVec 32) : Nat :=
  let c0_i32_1836 : BitVec 32 := 0#32
  let c1_i32_1835 : BitVec 32 := 1#32
  let v1323 : BitVec 32 := Scalar.muli v1 c1_i32_1835
  let v1324 : BitVec 32 := Scalar.addi c0_i32_1836 v1323
  v1324.toNat
def k0_dev45 (v0 : BitVec 32) : Nat :=
  let c0_i32_1872 : BitVec 32 := 0#32
  let c1_i32_1871 : BitVec 32 := 1#32
  let v1350 : BitVec 32 := Scalar.muli v0 c1_i32_1871
  let v1351 : BitVec 32 := Scalar.addi c0_i32_1872 v1350
  v1351.toNat
def k0_dev46 (v1 : BitVec 32) : Nat :=
  let c0_i32_1908 : BitVec 32 := 0#32
  let c1_i32_1907 : BitVec 32 := 1#32
  let v1377 : BitVec 32 := Scalar.muli v1 c1_i32_1907
  let v1378 : BitVec 32 := Scalar.addi c0_i32_1908 v1377
  v1378.toNat
def k0_dev47 (v0 : BitVec 32) : Nat :=
  let c0_i32_1944 : BitVec 32 := 0#32
  let c1_i32_1943 : BitVec 32 := 1#32
  let v1404 : BitVec 32 := Scalar.muli v0 c1_i32_1943
  let v1405 : BitVec 32 := Scalar.addi c0_i32_1944 v1404
  v1405.toNat
def k0_dev48 (v1 : BitVec 32) : Nat :=
  let c0_i32_1980 : BitVec 32 := 0#32
  let c1_i32_1979 : BitVec 32 := 1#32
  let v1431 : BitVec 32 := Scalar.muli v1 c1_i32_1979
  let v1432 : BitVec 32 := Scalar.addi c0_i32_1980 v1431
  v1432.toNat
def k0_dev49 (v0 : BitVec 32) : Nat :=
  let c0_i32_2016 : BitVec 32 := 0#32
  let c1_i32_2015 : BitVec 32 := 1#32
  let v1458 : BitVec 32 := Scalar.muli v0 c1_i32_2015
  let v1459 : BitVec 32 := Scalar.addi c0_i32_2016 v1458
  v1459.toNat
def k0_dev50 (v1 : BitVec 32) : Nat :=
  let c0_i32_2052 : BitVec 32 := 0#32
  let c1_i32_2051 : BitVec 32 := 1#32
  let v1485 : BitVec 32 := Scalar.muli v1 c1_i32_2051
  let v1486 : BitVec 32 := Scalar.addi c0_i32_2052 v1485
  v1486.toNat
def k0_off13 (v1543 : BitVec 32) : Fin 2 → Nat :=
  let c128_i32_2161 : BitVec 32 := 128#32
  let v1544 : BitVec 32 := Scalar.muli v1543 c128_i32_2161
  let v1545 : Index := Scalar.indexCast v1544
  let c0_2162 : Index := 0#32
  ![v1545.toNat, 0]

def k0_chk15 (v1543 : BitVec 32) : Prop :=
  (∀ a, (k0_off13 v1543) a + S128x128.size a ≤ S2048x128.size a)
theorem k0_off13_inb : ∀ (v1543 : BitVec 32) (k0_hw15 : k0_chk15 v1543), ∀ a, (k0_off13 v1543) a + S128x128.size a ≤ S2048x128.size a := fun v1543 k0_hw15 => k0_hw15

def k0_off14 (v1551 : BitVec 32) : Fin 2 → Nat :=
  let c128_i32_2166 : BitVec 32 := 128#32
  let v1552 : BitVec 32 := Scalar.muli v1551 c128_i32_2166
  let v1553 : Index := Scalar.indexCast v1552
  let c0_2167 : Index := 0#32
  ![v1553.toNat, 0]

def k0_chk16 (v1551 : BitVec 32) : Prop :=
  (∀ a, (k0_off14 v1551) a + S128x128.size a ≤ S2048x128.size a)
theorem k0_off14_inb : ∀ (v1551 : BitVec 32) (k0_hw16 : k0_chk16 v1551), ∀ a, (k0_off14 v1551) a + S128x128.size a ≤ S2048x128.size a := fun v1551 k0_hw16 => k0_hw16

def k0_dev51 (v0 : BitVec 32) : Nat :=
  let c0_i32_2201 : BitVec 32 := 0#32
  let c1_i32_2200 : BitVec 32 := 1#32
  let v1576 : BitVec 32 := Scalar.muli v0 c1_i32_2200
  let v1577 : BitVec 32 := Scalar.addi c0_i32_2201 v1576
  v1577.toNat
def k0_dev52 (v1 : BitVec 32) : Nat :=
  let c0_i32_2237 : BitVec 32 := 0#32
  let c1_i32_2236 : BitVec 32 := 1#32
  let v1603 : BitVec 32 := Scalar.muli v1 c1_i32_2236
  let v1604 : BitVec 32 := Scalar.addi c0_i32_2237 v1603
  v1604.toNat
def k0_dev53 (v0 : BitVec 32) : Nat :=
  let c0_i32_2273 : BitVec 32 := 0#32
  let c1_i32_2272 : BitVec 32 := 1#32
  let v1630 : BitVec 32 := Scalar.muli v0 c1_i32_2272
  let v1631 : BitVec 32 := Scalar.addi c0_i32_2273 v1630
  v1631.toNat
def k0_dev54 (v1 : BitVec 32) : Nat :=
  let c0_i32_2309 : BitVec 32 := 0#32
  let c1_i32_2308 : BitVec 32 := 1#32
  let v1657 : BitVec 32 := Scalar.muli v1 c1_i32_2308
  let v1658 : BitVec 32 := Scalar.addi c0_i32_2309 v1657
  v1658.toNat
def k0_dev55 (v0 : BitVec 32) : Nat :=
  let c0_i32_2345 : BitVec 32 := 0#32
  let c1_i32_2344 : BitVec 32 := 1#32
  let v1684 : BitVec 32 := Scalar.muli v0 c1_i32_2344
  let v1685 : BitVec 32 := Scalar.addi c0_i32_2345 v1684
  v1685.toNat
def k0_dev56 (v1 : BitVec 32) : Nat :=
  let c0_i32_2381 : BitVec 32 := 0#32
  let c1_i32_2380 : BitVec 32 := 1#32
  let v1711 : BitVec 32 := Scalar.muli v1 c1_i32_2380
  let v1712 : BitVec 32 := Scalar.addi c0_i32_2381 v1711
  v1712.toNat
def k0_dev57 (v0 : BitVec 32) : Nat :=
  let c0_i32_2417 : BitVec 32 := 0#32
  let c1_i32_2416 : BitVec 32 := 1#32
  let v1738 : BitVec 32 := Scalar.muli v0 c1_i32_2416
  let v1739 : BitVec 32 := Scalar.addi c0_i32_2417 v1738
  v1739.toNat
def k0_dev58 (v1 : BitVec 32) : Nat :=
  let c0_i32_2453 : BitVec 32 := 0#32
  let c1_i32_2452 : BitVec 32 := 1#32
  let v1765 : BitVec 32 := Scalar.muli v1 c1_i32_2452
  let v1766 : BitVec 32 := Scalar.addi c0_i32_2453 v1765
  v1766.toNat
def k0_off15 (v1823 : BitVec 32) : Fin 2 → Nat :=
  let c128_i32_2562 : BitVec 32 := 128#32
  let v1824 : BitVec 32 := Scalar.muli v1823 c128_i32_2562
  let v1825 : Index := Scalar.indexCast v1824
  let c0_2563 : Index := 0#32
  ![v1825.toNat, 0]

def k0_chk17 (v1823 : BitVec 32) : Prop :=
  (∀ a, (k0_off15 v1823) a + S128x128.size a ≤ S2048x128.size a)
theorem k0_off15_inb : ∀ (v1823 : BitVec 32) (k0_hw17 : k0_chk17 v1823), ∀ a, (k0_off15 v1823) a + S128x128.size a ≤ S2048x128.size a := fun v1823 k0_hw17 => k0_hw17

def k0_off16 (v1831 : BitVec 32) : Fin 2 → Nat :=
  let c128_i32_2567 : BitVec 32 := 128#32
  let v1832 : BitVec 32 := Scalar.muli v1831 c128_i32_2567
  let v1833 : Index := Scalar.indexCast v1832
  let c0_2568 : Index := 0#32
  ![v1833.toNat, 0]

def k0_chk18 (v1831 : BitVec 32) : Prop :=
  (∀ a, (k0_off16 v1831) a + S128x128.size a ≤ S2048x128.size a)
theorem k0_off16_inb : ∀ (v1831 : BitVec 32) (k0_hw18 : k0_chk18 v1831), ∀ a, (k0_off16 v1831) a + S128x128.size a ≤ S2048x128.size a := fun v1831 k0_hw18 => k0_hw18

def k0_dev59 (v0 : BitVec 32) : Nat :=
  let c0_i32_2602 : BitVec 32 := 0#32
  let c1_i32_2601 : BitVec 32 := 1#32
  let v1856 : BitVec 32 := Scalar.muli v0 c1_i32_2601
  let v1857 : BitVec 32 := Scalar.addi c0_i32_2602 v1856
  v1857.toNat
def k0_dev60 (v1 : BitVec 32) : Nat :=
  let c0_i32_2638 : BitVec 32 := 0#32
  let c1_i32_2637 : BitVec 32 := 1#32
  let v1883 : BitVec 32 := Scalar.muli v1 c1_i32_2637
  let v1884 : BitVec 32 := Scalar.addi c0_i32_2638 v1883
  v1884.toNat
def k0_dev61 (v0 : BitVec 32) : Nat :=
  let c0_i32_2674 : BitVec 32 := 0#32
  let c1_i32_2673 : BitVec 32 := 1#32
  let v1910 : BitVec 32 := Scalar.muli v0 c1_i32_2673
  let v1911 : BitVec 32 := Scalar.addi c0_i32_2674 v1910
  v1911.toNat
def k0_dev62 (v1 : BitVec 32) : Nat :=
  let c0_i32_2710 : BitVec 32 := 0#32
  let c1_i32_2709 : BitVec 32 := 1#32
  let v1937 : BitVec 32 := Scalar.muli v1 c1_i32_2709
  let v1938 : BitVec 32 := Scalar.addi c0_i32_2710 v1937
  v1938.toNat
def k0_dev63 (v0 : BitVec 32) : Nat :=
  let c0_i32_2746 : BitVec 32 := 0#32
  let c1_i32_2745 : BitVec 32 := 1#32
  let v1964 : BitVec 32 := Scalar.muli v0 c1_i32_2745
  let v1965 : BitVec 32 := Scalar.addi c0_i32_2746 v1964
  v1965.toNat
def k0_dev64 (v1 : BitVec 32) : Nat :=
  let c0_i32_2782 : BitVec 32 := 0#32
  let c1_i32_2781 : BitVec 32 := 1#32
  let v1991 : BitVec 32 := Scalar.muli v1 c1_i32_2781
  let v1992 : BitVec 32 := Scalar.addi c0_i32_2782 v1991
  v1992.toNat
def k0_dev65 (v0 : BitVec 32) : Nat :=
  let c0_i32_2818 : BitVec 32 := 0#32
  let c1_i32_2817 : BitVec 32 := 1#32
  let v2018 : BitVec 32 := Scalar.muli v0 c1_i32_2817
  let v2019 : BitVec 32 := Scalar.addi c0_i32_2818 v2018
  v2019.toNat
def k0_dev66 (v1 : BitVec 32) : Nat :=
  let c0_i32_2854 : BitVec 32 := 0#32
  let c1_i32_2853 : BitVec 32 := 1#32
  let v2045 : BitVec 32 := Scalar.muli v1 c1_i32_2853
  let v2046 : BitVec 32 := Scalar.addi c0_i32_2854 v2045
  v2046.toNat
def k0_off17 (v2103 : BitVec 32) : Fin 2 → Nat :=
  let c128_i32_2963 : BitVec 32 := 128#32
  let v2104 : BitVec 32 := Scalar.muli v2103 c128_i32_2963
  let v2105 : Index := Scalar.indexCast v2104
  let c0_2964 : Index := 0#32
  ![v2105.toNat, 0]

def k0_chk19 (v2103 : BitVec 32) : Prop :=
  (∀ a, (k0_off17 v2103) a + S128x128.size a ≤ S2048x128.size a)
theorem k0_off17_inb : ∀ (v2103 : BitVec 32) (k0_hw19 : k0_chk19 v2103), ∀ a, (k0_off17 v2103) a + S128x128.size a ≤ S2048x128.size a := fun v2103 k0_hw19 => k0_hw19

def k0_off18 (v2111 : BitVec 32) : Fin 2 → Nat :=
  let c128_i32_2968 : BitVec 32 := 128#32
  let v2112 : BitVec 32 := Scalar.muli v2111 c128_i32_2968
  let v2113 : Index := Scalar.indexCast v2112
  let c0_2969 : Index := 0#32
  ![v2113.toNat, 0]

def k0_chk20 (v2111 : BitVec 32) : Prop :=
  (∀ a, (k0_off18 v2111) a + S128x128.size a ≤ S2048x128.size a)
theorem k0_off18_inb : ∀ (v2111 : BitVec 32) (k0_hw20 : k0_chk20 v2111), ∀ a, (k0_off18 v2111) a + S128x128.size a ≤ S2048x128.size a := fun v2111 k0_hw20 => k0_hw20

def k0_dev67 (v0 : BitVec 32) : Nat :=
  let c0_i32_3003 : BitVec 32 := 0#32
  let c1_i32_3002 : BitVec 32 := 1#32
  let v2136 : BitVec 32 := Scalar.muli v0 c1_i32_3002
  let v2137 : BitVec 32 := Scalar.addi c0_i32_3003 v2136
  v2137.toNat
def k0_dev68 (v1 : BitVec 32) : Nat :=
  let c0_i32_3039 : BitVec 32 := 0#32
  let c1_i32_3038 : BitVec 32 := 1#32
  let v2163 : BitVec 32 := Scalar.muli v1 c1_i32_3038
  let v2164 : BitVec 32 := Scalar.addi c0_i32_3039 v2163
  v2164.toNat
def k0_dev69 (v0 : BitVec 32) : Nat :=
  let c0_i32_3075 : BitVec 32 := 0#32
  let c1_i32_3074 : BitVec 32 := 1#32
  let v2190 : BitVec 32 := Scalar.muli v0 c1_i32_3074
  let v2191 : BitVec 32 := Scalar.addi c0_i32_3075 v2190
  v2191.toNat
def k0_dev70 (v1 : BitVec 32) : Nat :=
  let c0_i32_3111 : BitVec 32 := 0#32
  let c1_i32_3110 : BitVec 32 := 1#32
  let v2217 : BitVec 32 := Scalar.muli v1 c1_i32_3110
  let v2218 : BitVec 32 := Scalar.addi c0_i32_3111 v2217
  v2218.toNat
def k0_dev71 (v0 : BitVec 32) : Nat :=
  let c0_i32_3147 : BitVec 32 := 0#32
  let c1_i32_3146 : BitVec 32 := 1#32
  let v2244 : BitVec 32 := Scalar.muli v0 c1_i32_3146
  let v2245 : BitVec 32 := Scalar.addi c0_i32_3147 v2244
  v2245.toNat
def k0_dev72 (v1 : BitVec 32) : Nat :=
  let c0_i32_3183 : BitVec 32 := 0#32
  let c1_i32_3182 : BitVec 32 := 1#32
  let v2271 : BitVec 32 := Scalar.muli v1 c1_i32_3182
  let v2272 : BitVec 32 := Scalar.addi c0_i32_3183 v2271
  v2272.toNat
def k0_dev73 (v0 : BitVec 32) : Nat :=
  let c0_i32_3219 : BitVec 32 := 0#32
  let c1_i32_3218 : BitVec 32 := 1#32
  let v2298 : BitVec 32 := Scalar.muli v0 c1_i32_3218
  let v2299 : BitVec 32 := Scalar.addi c0_i32_3219 v2298
  v2299.toNat
def k0_dev74 (v1 : BitVec 32) : Nat :=
  let c0_i32_3255 : BitVec 32 := 0#32
  let c1_i32_3254 : BitVec 32 := 1#32
  let v2325 : BitVec 32 := Scalar.muli v1 c1_i32_3254
  let v2326 : BitVec 32 := Scalar.addi c0_i32_3255 v2325
  v2326.toNat
def k0_off19 (v2383 : BitVec 32) : Fin 2 → Nat :=
  let c128_i32_3364 : BitVec 32 := 128#32
  let v2384 : BitVec 32 := Scalar.muli v2383 c128_i32_3364
  let v2385 : Index := Scalar.indexCast v2384
  let c0_3365 : Index := 0#32
  ![v2385.toNat, 0]

def k0_chk21 (v2383 : BitVec 32) : Prop :=
  (∀ a, (k0_off19 v2383) a + S128x128.size a ≤ S2048x128.size a)
theorem k0_off19_inb : ∀ (v2383 : BitVec 32) (k0_hw21 : k0_chk21 v2383), ∀ a, (k0_off19 v2383) a + S128x128.size a ≤ S2048x128.size a := fun v2383 k0_hw21 => k0_hw21

def k0_off20 (v2391 : BitVec 32) : Fin 2 → Nat :=
  let c128_i32_3369 : BitVec 32 := 128#32
  let v2392 : BitVec 32 := Scalar.muli v2391 c128_i32_3369
  let v2393 : Index := Scalar.indexCast v2392
  let c0_3370 : Index := 0#32
  ![v2393.toNat, 0]

def k0_chk22 (v2391 : BitVec 32) : Prop :=
  (∀ a, (k0_off20 v2391) a + S128x128.size a ≤ S2048x128.size a)
theorem k0_off20_inb : ∀ (v2391 : BitVec 32) (k0_hw22 : k0_chk22 v2391), ∀ a, (k0_off20 v2391) a + S128x128.size a ≤ S2048x128.size a := fun v2391 k0_hw22 => k0_hw22

def k0_dev75 (v0 : BitVec 32) : Nat :=
  let c0_i32_3404 : BitVec 32 := 0#32
  let c1_i32_3403 : BitVec 32 := 1#32
  let v2416 : BitVec 32 := Scalar.muli v0 c1_i32_3403
  let v2417 : BitVec 32 := Scalar.addi c0_i32_3404 v2416
  v2417.toNat
def k0_dev76 (v1 : BitVec 32) : Nat :=
  let c0_i32_3440 : BitVec 32 := 0#32
  let c1_i32_3439 : BitVec 32 := 1#32
  let v2443 : BitVec 32 := Scalar.muli v1 c1_i32_3439
  let v2444 : BitVec 32 := Scalar.addi c0_i32_3440 v2443
  v2444.toNat
def k0_dev77 (v0 : BitVec 32) : Nat :=
  let c0_i32_3476 : BitVec 32 := 0#32
  let c1_i32_3475 : BitVec 32 := 1#32
  let v2470 : BitVec 32 := Scalar.muli v0 c1_i32_3475
  let v2471 : BitVec 32 := Scalar.addi c0_i32_3476 v2470
  v2471.toNat
def k0_dev78 (v1 : BitVec 32) : Nat :=
  let c0_i32_3512 : BitVec 32 := 0#32
  let c1_i32_3511 : BitVec 32 := 1#32
  let v2497 : BitVec 32 := Scalar.muli v1 c1_i32_3511
  let v2498 : BitVec 32 := Scalar.addi c0_i32_3512 v2497
  v2498.toNat
def k0_dev79 (v0 : BitVec 32) : Nat :=
  let c0_i32_3548 : BitVec 32 := 0#32
  let c1_i32_3547 : BitVec 32 := 1#32
  let v2524 : BitVec 32 := Scalar.muli v0 c1_i32_3547
  let v2525 : BitVec 32 := Scalar.addi c0_i32_3548 v2524
  v2525.toNat
def k0_dev80 (v1 : BitVec 32) : Nat :=
  let c0_i32_3584 : BitVec 32 := 0#32
  let c1_i32_3583 : BitVec 32 := 1#32
  let v2551 : BitVec 32 := Scalar.muli v1 c1_i32_3583
  let v2552 : BitVec 32 := Scalar.addi c0_i32_3584 v2551
  v2552.toNat
def k0_dev81 (v0 : BitVec 32) : Nat :=
  let c0_i32_3620 : BitVec 32 := 0#32
  let c1_i32_3619 : BitVec 32 := 1#32
  let v2578 : BitVec 32 := Scalar.muli v0 c1_i32_3619
  let v2579 : BitVec 32 := Scalar.addi c0_i32_3620 v2578
  v2579.toNat
def k0_dev82 (v1 : BitVec 32) : Nat :=
  let c0_i32_3656 : BitVec 32 := 0#32
  let c1_i32_3655 : BitVec 32 := 1#32
  let v2605 : BitVec 32 := Scalar.muli v1 c1_i32_3655
  let v2606 : BitVec 32 := Scalar.addi c0_i32_3656 v2605
  v2606.toNat
def k0_off21 (v2663 : BitVec 32) : Fin 2 → Nat :=
  let c128_i32_3765 : BitVec 32 := 128#32
  let v2664 : BitVec 32 := Scalar.muli v2663 c128_i32_3765
  let v2665 : Index := Scalar.indexCast v2664
  let c0_3766 : Index := 0#32
  ![v2665.toNat, 0]

def k0_chk23 (v2663 : BitVec 32) : Prop :=
  (∀ a, (k0_off21 v2663) a + S128x128.size a ≤ S2048x128.size a)
theorem k0_off21_inb : ∀ (v2663 : BitVec 32) (k0_hw23 : k0_chk23 v2663), ∀ a, (k0_off21 v2663) a + S128x128.size a ≤ S2048x128.size a := fun v2663 k0_hw23 => k0_hw23

def k0_off22 (v2671 : BitVec 32) : Fin 2 → Nat :=
  let c128_i32_3770 : BitVec 32 := 128#32
  let v2672 : BitVec 32 := Scalar.muli v2671 c128_i32_3770
  let v2673 : Index := Scalar.indexCast v2672
  let c0_3771 : Index := 0#32
  ![v2673.toNat, 0]

def k0_chk24 (v2671 : BitVec 32) : Prop :=
  (∀ a, (k0_off22 v2671) a + S128x128.size a ≤ S2048x128.size a)
theorem k0_off22_inb : ∀ (v2671 : BitVec 32) (k0_hw24 : k0_chk24 v2671), ∀ a, (k0_off22 v2671) a + S128x128.size a ≤ S2048x128.size a := fun v2671 k0_hw24 => k0_hw24

def k0_dev83 (v0 : BitVec 32) : Nat :=
  let c0_i32_3805 : BitVec 32 := 0#32
  let c1_i32_3804 : BitVec 32 := 1#32
  let v2696 : BitVec 32 := Scalar.muli v0 c1_i32_3804
  let v2697 : BitVec 32 := Scalar.addi c0_i32_3805 v2696
  v2697.toNat
def k0_dev84 (v1 : BitVec 32) : Nat :=
  let c0_i32_3841 : BitVec 32 := 0#32
  let c1_i32_3840 : BitVec 32 := 1#32
  let v2723 : BitVec 32 := Scalar.muli v1 c1_i32_3840
  let v2724 : BitVec 32 := Scalar.addi c0_i32_3841 v2723
  v2724.toNat
def k0_dev85 (v0 : BitVec 32) : Nat :=
  let c0_i32_3877 : BitVec 32 := 0#32
  let c1_i32_3876 : BitVec 32 := 1#32
  let v2750 : BitVec 32 := Scalar.muli v0 c1_i32_3876
  let v2751 : BitVec 32 := Scalar.addi c0_i32_3877 v2750
  v2751.toNat
def k0_dev86 (v1 : BitVec 32) : Nat :=
  let c0_i32_3913 : BitVec 32 := 0#32
  let c1_i32_3912 : BitVec 32 := 1#32
  let v2777 : BitVec 32 := Scalar.muli v1 c1_i32_3912
  let v2778 : BitVec 32 := Scalar.addi c0_i32_3913 v2777
  v2778.toNat
def k0_dev87 (v0 : BitVec 32) : Nat :=
  let c0_i32_3949 : BitVec 32 := 0#32
  let c1_i32_3948 : BitVec 32 := 1#32
  let v2804 : BitVec 32 := Scalar.muli v0 c1_i32_3948
  let v2805 : BitVec 32 := Scalar.addi c0_i32_3949 v2804
  v2805.toNat
def k0_dev88 (v1 : BitVec 32) : Nat :=
  let c0_i32_3985 : BitVec 32 := 0#32
  let c1_i32_3984 : BitVec 32 := 1#32
  let v2831 : BitVec 32 := Scalar.muli v1 c1_i32_3984
  let v2832 : BitVec 32 := Scalar.addi c0_i32_3985 v2831
  v2832.toNat
def k0_dev89 (v0 : BitVec 32) : Nat :=
  let c0_i32_4021 : BitVec 32 := 0#32
  let c1_i32_4020 : BitVec 32 := 1#32
  let v2858 : BitVec 32 := Scalar.muli v0 c1_i32_4020
  let v2859 : BitVec 32 := Scalar.addi c0_i32_4021 v2858
  v2859.toNat
def k0_dev90 (v1 : BitVec 32) : Nat :=
  let c0_i32_4057 : BitVec 32 := 0#32
  let c1_i32_4056 : BitVec 32 := 1#32
  let v2885 : BitVec 32 := Scalar.muli v1 c1_i32_4056
  let v2886 : BitVec 32 := Scalar.addi c0_i32_4057 v2885
  v2886.toNat
def k0_off23 (v2943 : BitVec 32) : Fin 2 → Nat :=
  let c128_i32_4166 : BitVec 32 := 128#32
  let v2944 : BitVec 32 := Scalar.muli v2943 c128_i32_4166
  let v2945 : Index := Scalar.indexCast v2944
  let c0_4167 : Index := 0#32
  ![v2945.toNat, 0]

def k0_chk25 (v2943 : BitVec 32) : Prop :=
  (∀ a, (k0_off23 v2943) a + S128x128.size a ≤ S2048x128.size a)
theorem k0_off23_inb : ∀ (v2943 : BitVec 32) (k0_hw25 : k0_chk25 v2943), ∀ a, (k0_off23 v2943) a + S128x128.size a ≤ S2048x128.size a := fun v2943 k0_hw25 => k0_hw25

def k0_off24 (v2951 : BitVec 32) : Fin 2 → Nat :=
  let c128_i32_4171 : BitVec 32 := 128#32
  let v2952 : BitVec 32 := Scalar.muli v2951 c128_i32_4171
  let v2953 : Index := Scalar.indexCast v2952
  let c0_4172 : Index := 0#32
  ![v2953.toNat, 0]

def k0_chk26 (v2951 : BitVec 32) : Prop :=
  (∀ a, (k0_off24 v2951) a + S128x128.size a ≤ S2048x128.size a)
theorem k0_off24_inb : ∀ (v2951 : BitVec 32) (k0_hw26 : k0_chk26 v2951), ∀ a, (k0_off24 v2951) a + S128x128.size a ≤ S2048x128.size a := fun v2951 k0_hw26 => k0_hw26

def k0_dev91 (v0 : BitVec 32) : Nat :=
  let c0_i32_4206 : BitVec 32 := 0#32
  let c1_i32_4205 : BitVec 32 := 1#32
  let v2976 : BitVec 32 := Scalar.muli v0 c1_i32_4205
  let v2977 : BitVec 32 := Scalar.addi c0_i32_4206 v2976
  v2977.toNat
def k0_dev92 (v1 : BitVec 32) : Nat :=
  let c0_i32_4242 : BitVec 32 := 0#32
  let c1_i32_4241 : BitVec 32 := 1#32
  let v3003 : BitVec 32 := Scalar.muli v1 c1_i32_4241
  let v3004 : BitVec 32 := Scalar.addi c0_i32_4242 v3003
  v3004.toNat
def k0_dev93 (v0 : BitVec 32) : Nat :=
  let c0_i32_4278 : BitVec 32 := 0#32
  let c1_i32_4277 : BitVec 32 := 1#32
  let v3030 : BitVec 32 := Scalar.muli v0 c1_i32_4277
  let v3031 : BitVec 32 := Scalar.addi c0_i32_4278 v3030
  v3031.toNat
def k0_dev94 (v1 : BitVec 32) : Nat :=
  let c0_i32_4314 : BitVec 32 := 0#32
  let c1_i32_4313 : BitVec 32 := 1#32
  let v3057 : BitVec 32 := Scalar.muli v1 c1_i32_4313
  let v3058 : BitVec 32 := Scalar.addi c0_i32_4314 v3057
  v3058.toNat
def k0_dev95 (v0 : BitVec 32) : Nat :=
  let c0_i32_4350 : BitVec 32 := 0#32
  let c1_i32_4349 : BitVec 32 := 1#32
  let v3084 : BitVec 32 := Scalar.muli v0 c1_i32_4349
  let v3085 : BitVec 32 := Scalar.addi c0_i32_4350 v3084
  v3085.toNat
def k0_dev96 (v1 : BitVec 32) : Nat :=
  let c0_i32_4386 : BitVec 32 := 0#32
  let c1_i32_4385 : BitVec 32 := 1#32
  let v3111 : BitVec 32 := Scalar.muli v1 c1_i32_4385
  let v3112 : BitVec 32 := Scalar.addi c0_i32_4386 v3111
  v3112.toNat
def k0_dev97 (v0 : BitVec 32) : Nat :=
  let c0_i32_4422 : BitVec 32 := 0#32
  let c1_i32_4421 : BitVec 32 := 1#32
  let v3138 : BitVec 32 := Scalar.muli v0 c1_i32_4421
  let v3139 : BitVec 32 := Scalar.addi c0_i32_4422 v3138
  v3139.toNat
def k0_dev98 (v1 : BitVec 32) : Nat :=
  let c0_i32_4458 : BitVec 32 := 0#32
  let c1_i32_4457 : BitVec 32 := 1#32
  let v3165 : BitVec 32 := Scalar.muli v1 c1_i32_4457
  let v3166 : BitVec 32 := Scalar.addi c0_i32_4458 v3165
  v3166.toNat
def k0_off25 (v3223 : BitVec 32) : Fin 2 → Nat :=
  let c128_i32_4567 : BitVec 32 := 128#32
  let v3224 : BitVec 32 := Scalar.muli v3223 c128_i32_4567
  let v3225 : Index := Scalar.indexCast v3224
  let c0_4568 : Index := 0#32
  ![v3225.toNat, 0]

def k0_chk27 (v3223 : BitVec 32) : Prop :=
  (∀ a, (k0_off25 v3223) a + S128x128.size a ≤ S2048x128.size a)
theorem k0_off25_inb : ∀ (v3223 : BitVec 32) (k0_hw27 : k0_chk27 v3223), ∀ a, (k0_off25 v3223) a + S128x128.size a ≤ S2048x128.size a := fun v3223 k0_hw27 => k0_hw27

def k0_off26 (v3231 : BitVec 32) : Fin 2 → Nat :=
  let c128_i32_4572 : BitVec 32 := 128#32
  let v3232 : BitVec 32 := Scalar.muli v3231 c128_i32_4572
  let v3233 : Index := Scalar.indexCast v3232
  let c0_4573 : Index := 0#32
  ![v3233.toNat, 0]

def k0_chk28 (v3231 : BitVec 32) : Prop :=
  (∀ a, (k0_off26 v3231) a + S128x128.size a ≤ S2048x128.size a)
theorem k0_off26_inb : ∀ (v3231 : BitVec 32) (k0_hw28 : k0_chk28 v3231), ∀ a, (k0_off26 v3231) a + S128x128.size a ≤ S2048x128.size a := fun v3231 k0_hw28 => k0_hw28

def k0_dev99 (v0 : BitVec 32) : Nat :=
  let c0_i32_4607 : BitVec 32 := 0#32
  let c1_i32_4606 : BitVec 32 := 1#32
  let v3256 : BitVec 32 := Scalar.muli v0 c1_i32_4606
  let v3257 : BitVec 32 := Scalar.addi c0_i32_4607 v3256
  v3257.toNat
def k0_dev100 (v1 : BitVec 32) : Nat :=
  let c0_i32_4643 : BitVec 32 := 0#32
  let c1_i32_4642 : BitVec 32 := 1#32
  let v3283 : BitVec 32 := Scalar.muli v1 c1_i32_4642
  let v3284 : BitVec 32 := Scalar.addi c0_i32_4643 v3283
  v3284.toNat
def k0_dev101 (v0 : BitVec 32) : Nat :=
  let c0_i32_4679 : BitVec 32 := 0#32
  let c1_i32_4678 : BitVec 32 := 1#32
  let v3310 : BitVec 32 := Scalar.muli v0 c1_i32_4678
  let v3311 : BitVec 32 := Scalar.addi c0_i32_4679 v3310
  v3311.toNat
def k0_dev102 (v1 : BitVec 32) : Nat :=
  let c0_i32_4715 : BitVec 32 := 0#32
  let c1_i32_4714 : BitVec 32 := 1#32
  let v3337 : BitVec 32 := Scalar.muli v1 c1_i32_4714
  let v3338 : BitVec 32 := Scalar.addi c0_i32_4715 v3337
  v3338.toNat
def k0_dev103 (v0 : BitVec 32) : Nat :=
  let c0_i32_4751 : BitVec 32 := 0#32
  let c1_i32_4750 : BitVec 32 := 1#32
  let v3364 : BitVec 32 := Scalar.muli v0 c1_i32_4750
  let v3365 : BitVec 32 := Scalar.addi c0_i32_4751 v3364
  v3365.toNat
def k0_dev104 (v1 : BitVec 32) : Nat :=
  let c0_i32_4787 : BitVec 32 := 0#32
  let c1_i32_4786 : BitVec 32 := 1#32
  let v3391 : BitVec 32 := Scalar.muli v1 c1_i32_4786
  let v3392 : BitVec 32 := Scalar.addi c0_i32_4787 v3391
  v3392.toNat
def k0_dev105 (v0 : BitVec 32) : Nat :=
  let c0_i32_4823 : BitVec 32 := 0#32
  let c1_i32_4822 : BitVec 32 := 1#32
  let v3418 : BitVec 32 := Scalar.muli v0 c1_i32_4822
  let v3419 : BitVec 32 := Scalar.addi c0_i32_4823 v3418
  v3419.toNat
def k0_dev106 (v1 : BitVec 32) : Nat :=
  let c0_i32_4859 : BitVec 32 := 0#32
  let c1_i32_4858 : BitVec 32 := 1#32
  let v3445 : BitVec 32 := Scalar.muli v1 c1_i32_4858
  let v3446 : BitVec 32 := Scalar.addi c0_i32_4859 v3445
  v3446.toNat
def k0_off27 (v3503 : BitVec 32) : Fin 2 → Nat :=
  let c128_i32_4968 : BitVec 32 := 128#32
  let v3504 : BitVec 32 := Scalar.muli v3503 c128_i32_4968
  let v3505 : Index := Scalar.indexCast v3504
  let c0_4969 : Index := 0#32
  ![v3505.toNat, 0]

def k0_chk29 (v3503 : BitVec 32) : Prop :=
  (∀ a, (k0_off27 v3503) a + S128x128.size a ≤ S2048x128.size a)
theorem k0_off27_inb : ∀ (v3503 : BitVec 32) (k0_hw29 : k0_chk29 v3503), ∀ a, (k0_off27 v3503) a + S128x128.size a ≤ S2048x128.size a := fun v3503 k0_hw29 => k0_hw29

def k0_off28 (v3511 : BitVec 32) : Fin 2 → Nat :=
  let c128_i32_4973 : BitVec 32 := 128#32
  let v3512 : BitVec 32 := Scalar.muli v3511 c128_i32_4973
  let v3513 : Index := Scalar.indexCast v3512
  let c0_4974 : Index := 0#32
  ![v3513.toNat, 0]

def k0_chk30 (v3511 : BitVec 32) : Prop :=
  (∀ a, (k0_off28 v3511) a + S128x128.size a ≤ S2048x128.size a)
theorem k0_off28_inb : ∀ (v3511 : BitVec 32) (k0_hw30 : k0_chk30 v3511), ∀ a, (k0_off28 v3511) a + S128x128.size a ≤ S2048x128.size a := fun v3511 k0_hw30 => k0_hw30

def k0_dev107 (v0 : BitVec 32) : Nat :=
  let c0_i32_5008 : BitVec 32 := 0#32
  let c1_i32_5007 : BitVec 32 := 1#32
  let v3536 : BitVec 32 := Scalar.muli v0 c1_i32_5007
  let v3537 : BitVec 32 := Scalar.addi c0_i32_5008 v3536
  v3537.toNat
def k0_dev108 (v1 : BitVec 32) : Nat :=
  let c0_i32_5044 : BitVec 32 := 0#32
  let c1_i32_5043 : BitVec 32 := 1#32
  let v3563 : BitVec 32 := Scalar.muli v1 c1_i32_5043
  let v3564 : BitVec 32 := Scalar.addi c0_i32_5044 v3563
  v3564.toNat
def k0_dev109 (v0 : BitVec 32) : Nat :=
  let c0_i32_5080 : BitVec 32 := 0#32
  let c1_i32_5079 : BitVec 32 := 1#32
  let v3590 : BitVec 32 := Scalar.muli v0 c1_i32_5079
  let v3591 : BitVec 32 := Scalar.addi c0_i32_5080 v3590
  v3591.toNat
def k0_dev110 (v1 : BitVec 32) : Nat :=
  let c0_i32_5116 : BitVec 32 := 0#32
  let c1_i32_5115 : BitVec 32 := 1#32
  let v3617 : BitVec 32 := Scalar.muli v1 c1_i32_5115
  let v3618 : BitVec 32 := Scalar.addi c0_i32_5116 v3617
  v3618.toNat
def k0_dev111 (v0 : BitVec 32) : Nat :=
  let c0_i32_5152 : BitVec 32 := 0#32
  let c1_i32_5151 : BitVec 32 := 1#32
  let v3644 : BitVec 32 := Scalar.muli v0 c1_i32_5151
  let v3645 : BitVec 32 := Scalar.addi c0_i32_5152 v3644
  v3645.toNat
def k0_dev112 (v1 : BitVec 32) : Nat :=
  let c0_i32_5188 : BitVec 32 := 0#32
  let c1_i32_5187 : BitVec 32 := 1#32
  let v3671 : BitVec 32 := Scalar.muli v1 c1_i32_5187
  let v3672 : BitVec 32 := Scalar.addi c0_i32_5188 v3671
  v3672.toNat
def k0_dev113 (v0 : BitVec 32) : Nat :=
  let c0_i32_5224 : BitVec 32 := 0#32
  let c1_i32_5223 : BitVec 32 := 1#32
  let v3698 : BitVec 32 := Scalar.muli v0 c1_i32_5223
  let v3699 : BitVec 32 := Scalar.addi c0_i32_5224 v3698
  v3699.toNat
def k0_dev114 (v1 : BitVec 32) : Nat :=
  let c0_i32_5260 : BitVec 32 := 0#32
  let c1_i32_5259 : BitVec 32 := 1#32
  let v3725 : BitVec 32 := Scalar.muli v1 c1_i32_5259
  let v3726 : BitVec 32 := Scalar.addi c0_i32_5260 v3725
  v3726.toNat
def k0_off29 (v3783 : BitVec 32) : Fin 2 → Nat :=
  let c128_i32_5369 : BitVec 32 := 128#32
  let v3784 : BitVec 32 := Scalar.muli v3783 c128_i32_5369
  let v3785 : Index := Scalar.indexCast v3784
  let c0_5370 : Index := 0#32
  ![v3785.toNat, 0]

def k0_chk31 (v3783 : BitVec 32) : Prop :=
  (∀ a, (k0_off29 v3783) a + S128x128.size a ≤ S2048x128.size a)
theorem k0_off29_inb : ∀ (v3783 : BitVec 32) (k0_hw31 : k0_chk31 v3783), ∀ a, (k0_off29 v3783) a + S128x128.size a ≤ S2048x128.size a := fun v3783 k0_hw31 => k0_hw31

def k0_off30 (v3791 : BitVec 32) : Fin 2 → Nat :=
  let c128_i32_5374 : BitVec 32 := 128#32
  let v3792 : BitVec 32 := Scalar.muli v3791 c128_i32_5374
  let v3793 : Index := Scalar.indexCast v3792
  let c0_5375 : Index := 0#32
  ![v3793.toNat, 0]

def k0_chk32 (v3791 : BitVec 32) : Prop :=
  (∀ a, (k0_off30 v3791) a + S128x128.size a ≤ S2048x128.size a)
theorem k0_off30_inb : ∀ (v3791 : BitVec 32) (k0_hw32 : k0_chk32 v3791), ∀ a, (k0_off30 v3791) a + S128x128.size a ≤ S2048x128.size a := fun v3791 k0_hw32 => k0_hw32

def k0_dev115 (v0 : BitVec 32) : Nat :=
  let c0_i32_5409 : BitVec 32 := 0#32
  let c1_i32_5408 : BitVec 32 := 1#32
  let v3816 : BitVec 32 := Scalar.muli v0 c1_i32_5408
  let v3817 : BitVec 32 := Scalar.addi c0_i32_5409 v3816
  v3817.toNat
def k0_dev116 (v1 : BitVec 32) : Nat :=
  let c0_i32_5445 : BitVec 32 := 0#32
  let c1_i32_5444 : BitVec 32 := 1#32
  let v3843 : BitVec 32 := Scalar.muli v1 c1_i32_5444
  let v3844 : BitVec 32 := Scalar.addi c0_i32_5445 v3843
  v3844.toNat
def k0_dev117 (v0 : BitVec 32) : Nat :=
  let c0_i32_5481 : BitVec 32 := 0#32
  let c1_i32_5480 : BitVec 32 := 1#32
  let v3870 : BitVec 32 := Scalar.muli v0 c1_i32_5480
  let v3871 : BitVec 32 := Scalar.addi c0_i32_5481 v3870
  v3871.toNat
def k0_dev118 (v1 : BitVec 32) : Nat :=
  let c0_i32_5517 : BitVec 32 := 0#32
  let c1_i32_5516 : BitVec 32 := 1#32
  let v3897 : BitVec 32 := Scalar.muli v1 c1_i32_5516
  let v3898 : BitVec 32 := Scalar.addi c0_i32_5517 v3897
  v3898.toNat
def k0_dev119 (v0 : BitVec 32) : Nat :=
  let c0_i32_5553 : BitVec 32 := 0#32
  let c1_i32_5552 : BitVec 32 := 1#32
  let v3924 : BitVec 32 := Scalar.muli v0 c1_i32_5552
  let v3925 : BitVec 32 := Scalar.addi c0_i32_5553 v3924
  v3925.toNat
def k0_dev120 (v1 : BitVec 32) : Nat :=
  let c0_i32_5589 : BitVec 32 := 0#32
  let c1_i32_5588 : BitVec 32 := 1#32
  let v3951 : BitVec 32 := Scalar.muli v1 c1_i32_5588
  let v3952 : BitVec 32 := Scalar.addi c0_i32_5589 v3951
  v3952.toNat
def k0_dev121 (v0 : BitVec 32) : Nat :=
  let c0_i32_5625 : BitVec 32 := 0#32
  let c1_i32_5624 : BitVec 32 := 1#32
  let v3978 : BitVec 32 := Scalar.muli v0 c1_i32_5624
  let v3979 : BitVec 32 := Scalar.addi c0_i32_5625 v3978
  v3979.toNat

def k0_chk2_0 (v0 : BitVec 32) : Prop :=
  ((k0_dev2 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD) ∧
  ((k0_dev63 v0) < nD)
def k0_chk2_1 (v0 : BitVec 32) : Prop :=
  ((k0_dev65 v0) < nD) ∧
  ((k0_dev67 v0) < nD) ∧
  ((k0_dev69 v0) < nD) ∧
  ((k0_dev71 v0) < nD) ∧
  ((k0_dev73 v0) < nD) ∧
  ((k0_dev75 v0) < nD) ∧
  ((k0_dev77 v0) < nD) ∧
  ((k0_dev79 v0) < nD) ∧
  ((k0_dev81 v0) < nD) ∧
  ((k0_dev83 v0) < nD) ∧
  ((k0_dev85 v0) < nD) ∧
  ((k0_dev87 v0) < nD) ∧
  ((k0_dev89 v0) < nD) ∧
  ((k0_dev91 v0) < nD) ∧
  ((k0_dev93 v0) < nD) ∧
  ((k0_dev95 v0) < nD) ∧
  ((k0_dev97 v0) < nD) ∧
  ((k0_dev99 v0) < nD) ∧
  ((k0_dev101 v0) < nD) ∧
  ((k0_dev103 v0) < nD) ∧
  ((k0_dev105 v0) < nD) ∧
  ((k0_dev107 v0) < nD) ∧
  ((k0_dev109 v0) < nD) ∧
  ((k0_dev111 v0) < nD) ∧
  ((k0_dev113 v0) < nD) ∧
  ((k0_dev115 v0) < nD) ∧
  ((k0_dev117 v0) < nD) ∧
  ((k0_dev119 v0) < nD) ∧
  ((k0_dev121 v0) < nD)
def k0_chk2 (v0 : BitVec 32) : Prop :=
  k0_chk2_0 v0 ∧
  k0_chk2_1 v0
theorem k0_dev2_lt : ∀ (v0 : BitVec 32) (k0_hw2 : k0_chk2 v0), (k0_dev2 v0) < nD := fun v0 k0_hw2 => k0_hw2.1.1
theorem k0_dev3_lt : ∀ (v0 : BitVec 32) (k0_hw2 : k0_chk2 v0), (k0_dev3 v0) < nD := fun v0 k0_hw2 => k0_hw2.1.2.1
theorem k0_dev5_lt : ∀ (v0 : BitVec 32) (k0_hw2 : k0_chk2 v0), (k0_dev5 v0) < nD := fun v0 k0_hw2 => k0_hw2.1.2.2.1
theorem k0_dev7_lt : ∀ (v0 : BitVec 32) (k0_hw2 : k0_chk2 v0), (k0_dev7 v0) < nD := fun v0 k0_hw2 => k0_hw2.1.2.2.2.1
theorem k0_dev9_lt : ∀ (v0 : BitVec 32) (k0_hw2 : k0_chk2 v0), (k0_dev9 v0) < nD := fun v0 k0_hw2 => k0_hw2.1.2.2.2.2.1
theorem k0_dev11_lt : ∀ (v0 : BitVec 32) (k0_hw2 : k0_chk2 v0), (k0_dev11 v0) < nD := fun v0 k0_hw2 => k0_hw2.1.2.2.2.2.2.1
theorem k0_dev13_lt : ∀ (v0 : BitVec 32) (k0_hw2 : k0_chk2 v0), (k0_dev13 v0) < nD := fun v0 k0_hw2 => k0_hw2.1.2.2.2.2.2.2.1
theorem k0_dev15_lt : ∀ (v0 : BitVec 32) (k0_hw2 : k0_chk2 v0), (k0_dev15 v0) < nD := fun v0 k0_hw2 => k0_hw2.1.2.2.2.2.2.2.2.1
theorem k0_dev17_lt : ∀ (v0 : BitVec 32) (k0_hw2 : k0_chk2 v0), (k0_dev17 v0) < nD := fun v0 k0_hw2 => k0_hw2.1.2.2.2.2.2.2.2.2.1
theorem k0_dev19_lt : ∀ (v0 : BitVec 32) (k0_hw2 : k0_chk2 v0), (k0_dev19 v0) < nD := fun v0 k0_hw2 => k0_hw2.1.2.2.2.2.2.2.2.2.2.1
theorem k0_dev21_lt : ∀ (v0 : BitVec 32) (k0_hw2 : k0_chk2 v0), (k0_dev21 v0) < nD := fun v0 k0_hw2 => k0_hw2.1.2.2.2.2.2.2.2.2.2.2.1
theorem k0_dev23_lt : ∀ (v0 : BitVec 32) (k0_hw2 : k0_chk2 v0), (k0_dev23 v0) < nD := fun v0 k0_hw2 => k0_hw2.1.2.2.2.2.2.2.2.2.2.2.2.1
theorem k0_dev25_lt : ∀ (v0 : BitVec 32) (k0_hw2 : k0_chk2 v0), (k0_dev25 v0) < nD := fun v0 k0_hw2 => k0_hw2.1.2.2.2.2.2.2.2.2.2.2.2.2.1
theorem k0_dev27_lt : ∀ (v0 : BitVec 32) (k0_hw2 : k0_chk2 v0), (k0_dev27 v0) < nD := fun v0 k0_hw2 => k0_hw2.1.2.2.2.2.2.2.2.2.2.2.2.2.2.1
theorem k0_dev29_lt : ∀ (v0 : BitVec 32) (k0_hw2 : k0_chk2 v0), (k0_dev29 v0) < nD := fun v0 k0_hw2 => k0_hw2.1.2.2.2.2.2.2.2.2.2.2.2.2.2.2.1
theorem k0_dev31_lt : ∀ (v0 : BitVec 32) (k0_hw2 : k0_chk2 v0), (k0_dev31 v0) < nD := fun v0 k0_hw2 => k0_hw2.1.2.2.2.2.2.2.2.2.2.2.2.2.2.2.2.1
theorem k0_dev33_lt : ∀ (v0 : BitVec 32) (k0_hw2 : k0_chk2 v0), (k0_dev33 v0) < nD := fun v0 k0_hw2 => k0_hw2.1.2.2.2.2.2.2.2.2.2.2.2.2.2.2.2.2.1
theorem k0_dev35_lt : ∀ (v0 : BitVec 32) (k0_hw2 : k0_chk2 v0), (k0_dev35 v0) < nD := fun v0 k0_hw2 => k0_hw2.1.2.2.2.2.2.2.2.2.2.2.2.2.2.2.2.2.2.1
theorem k0_dev37_lt : ∀ (v0 : BitVec 32) (k0_hw2 : k0_chk2 v0), (k0_dev37 v0) < nD := fun v0 k0_hw2 => k0_hw2.1.2.2.2.2.2.2.2.2.2.2.2.2.2.2.2.2.2.2.1
theorem k0_dev39_lt : ∀ (v0 : BitVec 32) (k0_hw2 : k0_chk2 v0), (k0_dev39 v0) < nD := fun v0 k0_hw2 => k0_hw2.1.2.2.2.2.2.2.2.2.2.2.2.2.2.2.2.2.2.2.2.1
theorem k0_dev41_lt : ∀ (v0 : BitVec 32) (k0_hw2 : k0_chk2 v0), (k0_dev41 v0) < nD := fun v0 k0_hw2 => k0_hw2.1.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.1.2.2.2.2.2.2.2.2.2.2.2.2.2.2.2.2.2.2.2.2.2.1
theorem k0_dev45_lt : ∀ (v0 : BitVec 32) (k0_hw2 : k0_chk2 v0), (k0_dev45 v0) < nD := fun v0 k0_hw2 => k0_hw2.1.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.1.2.2.2.2.2.2.2.2.2.2.2.2.2.2.2.2.2.2.2.2.2.2.2.1
theorem k0_dev49_lt : ∀ (v0 : BitVec 32) (k0_hw2 : k0_chk2 v0), (k0_dev49 v0) < nD := fun v0 k0_hw2 => k0_hw2.1.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.1.2.2.2.2.2.2.2.2.2.2.2.2.2.2.2.2.2.2.2.2.2.2.2.2.2.1
theorem k0_dev53_lt : ∀ (v0 : BitVec 32) (k0_hw2 : k0_chk2 v0), (k0_dev53 v0) < nD := fun v0 k0_hw2 => k0_hw2.1.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.1.2.2.2.2.2.2.2.2.2.2.2.2.2.2.2.2.2.2.2.2.2.2.2.2.2.2.2.1
theorem k0_dev57_lt : ∀ (v0 : BitVec 32) (k0_hw2 : k0_chk2 v0), (k0_dev57 v0) < nD := fun v0 k0_hw2 => k0_hw2.1.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.1.2.2.2.2.2.2.2.2.2.2.2.2.2.2.2.2.2.2.2.2.2.2.2.2.2.2.2.2.2.1
theorem k0_dev61_lt : ∀ (v0 : BitVec 32) (k0_hw2 : k0_chk2 v0), (k0_dev61 v0) < nD := fun v0 k0_hw2 => k0_hw2.1.2.2.2.2.2.2.2.2.2.2.2.2.2.2.2.2.2.2.2.2.2.2.2.2.2.2.2.2.2.2.1
theorem k0_dev63_lt : ∀ (v0 : BitVec 32) (k0_hw2 : k0_chk2 v0), (k0_dev63 v0) < nD := fun v0 k0_hw2 => k0_hw2.1.2.2.2.2.2.2.2.2.2.2.2.2.2.2.2.2.2.2.2.2.2.2.2.2.2.2.2.2.2.2.2
theorem k0_dev65_lt : ∀ (v0 : BitVec 32) (k0_hw2 : k0_chk2 v0), (k0_dev65 v0) < nD := fun v0 k0_hw2 => k0_hw2.2.1
theorem k0_dev67_lt : ∀ (v0 : BitVec 32) (k0_hw2 : k0_chk2 v0), (k0_dev67 v0) < nD := fun v0 k0_hw2 => k0_hw2.2.2.1
theorem k0_dev69_lt : ∀ (v0 : BitVec 32) (k0_hw2 : k0_chk2 v0), (k0_dev69 v0) < nD := fun v0 k0_hw2 => k0_hw2.2.2.2.1
theorem k0_dev71_lt : ∀ (v0 : BitVec 32) (k0_hw2 : k0_chk2 v0), (k0_dev71 v0) < nD := fun v0 k0_hw2 => k0_hw2.2.2.2.2.1
theorem k0_dev73_lt : ∀ (v0 : BitVec 32) (k0_hw2 : k0_chk2 v0), (k0_dev73 v0) < nD := fun v0 k0_hw2 => k0_hw2.2.2.2.2.2.1
theorem k0_dev75_lt : ∀ (v0 : BitVec 32) (k0_hw2 : k0_chk2 v0), (k0_dev75 v0) < nD := fun v0 k0_hw2 => k0_hw2.2.2.2.2.2.2.1
theorem k0_dev77_lt : ∀ (v0 : BitVec 32) (k0_hw2 : k0_chk2 v0), (k0_dev77 v0) < nD := fun v0 k0_hw2 => k0_hw2.2.2.2.2.2.2.2.1
theorem k0_dev79_lt : ∀ (v0 : BitVec 32) (k0_hw2 : k0_chk2 v0), (k0_dev79 v0) < nD := fun v0 k0_hw2 => k0_hw2.2.2.2.2.2.2.2.2.1
theorem k0_dev81_lt : ∀ (v0 : BitVec 32) (k0_hw2 : k0_chk2 v0), (k0_dev81 v0) < nD := fun v0 k0_hw2 => k0_hw2.2.2.2.2.2.2.2.2.2.1
theorem k0_dev83_lt : ∀ (v0 : BitVec 32) (k0_hw2 : k0_chk2 v0), (k0_dev83 v0) < nD := fun v0 k0_hw2 => k0_hw2.2.2.2.2.2.2.2.2.2.2.1
theorem k0_dev85_lt : ∀ (v0 : BitVec 32) (k0_hw2 : k0_chk2 v0), (k0_dev85 v0) < nD := fun v0 k0_hw2 => k0_hw2.2.2.2.2.2.2.2.2.2.2.2.1
theorem k0_dev87_lt : ∀ (v0 : BitVec 32) (k0_hw2 : k0_chk2 v0), (k0_dev87 v0) < nD := fun v0 k0_hw2 => k0_hw2.2.2.2.2.2.2.2.2.2.2.2.2.1
theorem k0_dev89_lt : ∀ (v0 : BitVec 32) (k0_hw2 : k0_chk2 v0), (k0_dev89 v0) < nD := fun v0 k0_hw2 => k0_hw2.2.2.2.2.2.2.2.2.2.2.2.2.2.1
theorem k0_dev91_lt : ∀ (v0 : BitVec 32) (k0_hw2 : k0_chk2 v0), (k0_dev91 v0) < nD := fun v0 k0_hw2 => k0_hw2.2.2.2.2.2.2.2.2.2.2.2.2.2.2.1
theorem k0_dev93_lt : ∀ (v0 : BitVec 32) (k0_hw2 : k0_chk2 v0), (k0_dev93 v0) < nD := fun v0 k0_hw2 => k0_hw2.2.2.2.2.2.2.2.2.2.2.2.2.2.2.2.1
theorem k0_dev95_lt : ∀ (v0 : BitVec 32) (k0_hw2 : k0_chk2 v0), (k0_dev95 v0) < nD := fun v0 k0_hw2 => k0_hw2.2.2.2.2.2.2.2.2.2.2.2.2.2.2.2.2.1
theorem k0_dev97_lt : ∀ (v0 : BitVec 32) (k0_hw2 : k0_chk2 v0), (k0_dev97 v0) < nD := fun v0 k0_hw2 => k0_hw2.2.2.2.2.2.2.2.2.2.2.2.2.2.2.2.2.2.1
theorem k0_dev99_lt : ∀ (v0 : BitVec 32) (k0_hw2 : k0_chk2 v0), (k0_dev99 v0) < nD := fun v0 k0_hw2 => k0_hw2.2.2.2.2.2.2.2.2.2.2.2.2.2.2.2.2.2.2.1
theorem k0_dev101_lt : ∀ (v0 : BitVec 32) (k0_hw2 : k0_chk2 v0), (k0_dev101 v0) < nD := fun v0 k0_hw2 => k0_hw2.2.2.2.2.2.2.2.2.2.2.2.2.2.2.2.2.2.2.2.1
theorem k0_dev103_lt : ∀ (v0 : BitVec 32) (k0_hw2 : k0_chk2 v0), (k0_dev103 v0) < nD := fun v0 k0_hw2 => k0_hw2.2.2.2.2.2.2.2.2.2.2.2.2.2.2.2.2.2.2.2.2.1
theorem k0_dev105_lt : ∀ (v0 : BitVec 32) (k0_hw2 : k0_chk2 v0), (k0_dev105 v0) < nD := fun v0 k0_hw2 => k0_hw2.2.2.2.2.2.2.2.2.2.2.2.2.2.2.2.2.2.2.2.2.2.1
theorem k0_dev107_lt : ∀ (v0 : BitVec 32) (k0_hw2 : k0_chk2 v0), (k0_dev107 v0) < nD := fun v0 k0_hw2 => k0_hw2.2.2.2.2.2.2.2.2.2.2.2.2.2.2.2.2.2.2.2.2.2.2.1
theorem k0_dev109_lt : ∀ (v0 : BitVec 32) (k0_hw2 : k0_chk2 v0), (k0_dev109 v0) < nD := fun v0 k0_hw2 => k0_hw2.2.2.2.2.2.2.2.2.2.2.2.2.2.2.2.2.2.2.2.2.2.2.2.1
theorem k0_dev111_lt : ∀ (v0 : BitVec 32) (k0_hw2 : k0_chk2 v0), (k0_dev111 v0) < nD := fun v0 k0_hw2 => k0_hw2.2.2.2.2.2.2.2.2.2.2.2.2.2.2.2.2.2.2.2.2.2.2.2.2.1
theorem k0_dev113_lt : ∀ (v0 : BitVec 32) (k0_hw2 : k0_chk2 v0), (k0_dev113 v0) < nD := fun v0 k0_hw2 => k0_hw2.2.2.2.2.2.2.2.2.2.2.2.2.2.2.2.2.2.2.2.2.2.2.2.2.2.1
theorem k0_dev115_lt : ∀ (v0 : BitVec 32) (k0_hw2 : k0_chk2 v0), (k0_dev115 v0) < nD := fun v0 k0_hw2 => k0_hw2.2.2.2.2.2.2.2.2.2.2.2.2.2.2.2.2.2.2.2.2.2.2.2.2.2.2.1
theorem k0_dev117_lt : ∀ (v0 : BitVec 32) (k0_hw2 : k0_chk2 v0), (k0_dev117 v0) < nD := fun v0 k0_hw2 => k0_hw2.2.2.2.2.2.2.2.2.2.2.2.2.2.2.2.2.2.2.2.2.2.2.2.2.2.2.2.1
theorem k0_dev119_lt : ∀ (v0 : BitVec 32) (k0_hw2 : k0_chk2 v0), (k0_dev119 v0) < nD := fun v0 k0_hw2 => k0_hw2.2.2.2.2.2.2.2.2.2.2.2.2.2.2.2.2.2.2.2.2.2.2.2.2.2.2.2.2.1
theorem k0_dev121_lt : ∀ (v0 : BitVec 32) (k0_hw2 : k0_chk2 v0), (k0_dev121 v0) < nD := fun v0 k0_hw2 => k0_hw2.2.2.2.2.2.2.2.2.2.2.2.2.2.2.2.2.2.2.2.2.2.2.2.2.2.2.2.2.2

def k0_dev122 (v1 : BitVec 32) : Nat :=
  let c0_i32_5661 : BitVec 32 := 0#32
  let c1_i32_5660 : BitVec 32 := 1#32
  let v4005 : BitVec 32 := Scalar.muli v1 c1_i32_5660
  let v4006 : BitVec 32 := Scalar.addi c0_i32_5661 v4005
  v4006.toNat

def k0_chk1_0 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD) ∧
  ((k0_dev64 v1) < nD)
def k0_chk1_1 (v1 : BitVec 32) : Prop :=
  ((k0_dev66 v1) < nD) ∧
  ((k0_dev68 v1) < nD) ∧
  ((k0_dev70 v1) < nD) ∧
  ((k0_dev72 v1) < nD) ∧
  ((k0_dev74 v1) < nD) ∧
  ((k0_dev76 v1) < nD) ∧
  ((k0_dev78 v1) < nD) ∧
  ((k0_dev80 v1) < nD) ∧
  ((k0_dev82 v1) < nD) ∧
  ((k0_dev84 v1) < nD) ∧
  ((k0_dev86 v1) < nD) ∧
  ((k0_dev88 v1) < nD) ∧
  ((k0_dev90 v1) < nD) ∧
  ((k0_dev92 v1) < nD) ∧
  ((k0_dev94 v1) < nD) ∧
  ((k0_dev96 v1) < nD) ∧
  ((k0_dev98 v1) < nD) ∧
  ((k0_dev100 v1) < nD) ∧
  ((k0_dev102 v1) < nD) ∧
  ((k0_dev104 v1) < nD) ∧
  ((k0_dev106 v1) < nD) ∧
  ((k0_dev108 v1) < nD) ∧
  ((k0_dev110 v1) < nD) ∧
  ((k0_dev112 v1) < nD) ∧
  ((k0_dev114 v1) < nD) ∧
  ((k0_dev116 v1) < nD) ∧
  ((k0_dev118 v1) < nD) ∧
  ((k0_dev120 v1) < nD) ∧
  ((k0_dev122 v1) < nD)
def k0_chk1 (v1 : BitVec 32) : Prop :=
  k0_chk1_0 v1 ∧
  k0_chk1_1 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev12_lt : ∀ (v1 : BitVec 32) (k0_hw1 : k0_chk1 v1), (k0_dev12 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev18_lt : ∀ (v1 : BitVec 32) (k0_hw1 : k0_chk1 v1), (k0_dev18 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev24_lt : ∀ (v1 : BitVec 32) (k0_hw1 : k0_chk1 v1), (k0_dev24 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev30_lt : ∀ (v1 : BitVec 32) (k0_hw1 : k0_chk1 v1), (k0_dev30 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev34_lt : ∀ (v1 : BitVec 32) (k0_hw1 : k0_chk1 v1), (k0_dev34 v1) < nD := fun v1 k0_hw1 => k0_hw1.1.2.2.2.2.2.2.2.2.2.2.2.2.2.2.2.2.1
theorem k0_dev36_lt : ∀ (v1 : BitVec 32) (k0_hw1 : k0_chk1 v1), (k0_dev36 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev40_lt : ∀ (v1 : BitVec 32) (k0_hw1 : k0_chk1 v1), (k0_dev40 v1) < nD := fun v1 k0_hw1 => k0_hw1.1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev66_lt : ∀ (v1 : BitVec 32) (k0_hw1 : k0_chk1 v1), (k0_dev66 v1) < nD := fun v1 k0_hw1 => k0_hw1.2.1
theorem k0_dev68_lt : ∀ (v1 : BitVec 32) (k0_hw1 : k0_chk1 v1), (k0_dev68 v1) < nD := fun v1 k0_hw1 => k0_hw1.2.2.1
theorem k0_dev70_lt : ∀ (v1 : BitVec 32) (k0_hw1 : k0_chk1 v1), (k0_dev70 v1) < nD := fun v1 k0_hw1 => k0_hw1.2.2.2.1
theorem k0_dev72_lt : ∀ (v1 : BitVec 32) (k0_hw1 : k0_chk1 v1), (k0_dev72 v1) < nD := fun v1 k0_hw1 => k0_hw1.2.2.2.2.1
theorem k0_dev74_lt : ∀ (v1 : BitVec 32) (k0_hw1 : k0_chk1 v1), (k0_dev74 v1) < nD := fun v1 k0_hw1 => k0_hw1.2.2.2.2.2.1
theorem k0_dev76_lt : ∀ (v1 : BitVec 32) (k0_hw1 : k0_chk1 v1), (k0_dev76 v1) < nD := fun v1 k0_hw1 => k0_hw1.2.2.2.2.2.2.1
theorem k0_dev78_lt : ∀ (v1 : BitVec 32) (k0_hw1 : k0_chk1 v1), (k0_dev78 v1) < nD := fun v1 k0_hw1 => k0_hw1.2.2.2.2.2.2.2.1
theorem k0_dev80_lt : ∀ (v1 : BitVec 32) (k0_hw1 : k0_chk1 v1), (k0_dev80 v1) < nD := fun v1 k0_hw1 => k0_hw1.2.2.2.2.2.2.2.2.1
theorem k0_dev82_lt : ∀ (v1 : BitVec 32) (k0_hw1 : k0_chk1 v1), (k0_dev82 v1) < nD := fun v1 k0_hw1 => k0_hw1.2.2.2.2.2.2.2.2.2.1
theorem k0_dev84_lt : ∀ (v1 : BitVec 32) (k0_hw1 : k0_chk1 v1), (k0_dev84 v1) < nD := fun v1 k0_hw1 => k0_hw1.2.2.2.2.2.2.2.2.2.2.1
theorem k0_dev86_lt : ∀ (v1 : BitVec 32) (k0_hw1 : k0_chk1 v1), (k0_dev86 v1) < nD := fun v1 k0_hw1 => k0_hw1.2.2.2.2.2.2.2.2.2.2.2.1
theorem k0_dev88_lt : ∀ (v1 : BitVec 32) (k0_hw1 : k0_chk1 v1), (k0_dev88 v1) < nD := fun v1 k0_hw1 => k0_hw1.2.2.2.2.2.2.2.2.2.2.2.2.1
theorem k0_dev90_lt : ∀ (v1 : BitVec 32) (k0_hw1 : k0_chk1 v1), (k0_dev90 v1) < nD := fun v1 k0_hw1 => k0_hw1.2.2.2.2.2.2.2.2.2.2.2.2.2.1
theorem k0_dev92_lt : ∀ (v1 : BitVec 32) (k0_hw1 : k0_chk1 v1), (k0_dev92 v1) < nD := fun v1 k0_hw1 => k0_hw1.2.2.2.2.2.2.2.2.2.2.2.2.2.2.1
theorem k0_dev94_lt : ∀ (v1 : BitVec 32) (k0_hw1 : k0_chk1 v1), (k0_dev94 v1) < nD := fun v1 k0_hw1 => k0_hw1.2.2.2.2.2.2.2.2.2.2.2.2.2.2.2.1
theorem k0_dev96_lt : ∀ (v1 : BitVec 32) (k0_hw1 : k0_chk1 v1), (k0_dev96 v1) < nD := fun v1 k0_hw1 => k0_hw1.2.2.2.2.2.2.2.2.2.2.2.2.2.2.2.2.1
theorem k0_dev98_lt : ∀ (v1 : BitVec 32) (k0_hw1 : k0_chk1 v1), (k0_dev98 v1) < nD := fun v1 k0_hw1 => k0_hw1.2.2.2.2.2.2.2.2.2.2.2.2.2.2.2.2.2.1
theorem k0_dev100_lt : ∀ (v1 : BitVec 32) (k0_hw1 : k0_chk1 v1), (k0_dev100 v1) < nD := fun v1 k0_hw1 => k0_hw1.2.2.2.2.2.2.2.2.2.2.2.2.2.2.2.2.2.2.1
theorem k0_dev102_lt : ∀ (v1 : BitVec 32) (k0_hw1 : k0_chk1 v1), (k0_dev102 v1) < nD := fun v1 k0_hw1 => k0_hw1.2.2.2.2.2.2.2.2.2.2.2.2.2.2.2.2.2.2.2.1
theorem k0_dev104_lt : ∀ (v1 : BitVec 32) (k0_hw1 : k0_chk1 v1), (k0_dev104 v1) < nD := fun v1 k0_hw1 => k0_hw1.2.2.2.2.2.2.2.2.2.2.2.2.2.2.2.2.2.2.2.2.1
theorem k0_dev106_lt : ∀ (v1 : BitVec 32) (k0_hw1 : k0_chk1 v1), (k0_dev106 v1) < nD := fun v1 k0_hw1 => k0_hw1.2.2.2.2.2.2.2.2.2.2.2.2.2.2.2.2.2.2.2.2.2.1
theorem k0_dev108_lt : ∀ (v1 : BitVec 32) (k0_hw1 : k0_chk1 v1), (k0_dev108 v1) < nD := fun v1 k0_hw1 => k0_hw1.2.2.2.2.2.2.2.2.2.2.2.2.2.2.2.2.2.2.2.2.2.2.1
theorem k0_dev110_lt : ∀ (v1 : BitVec 32) (k0_hw1 : k0_chk1 v1), (k0_dev110 v1) < nD := fun v1 k0_hw1 => k0_hw1.2.2.2.2.2.2.2.2.2.2.2.2.2.2.2.2.2.2.2.2.2.2.2.1
theorem k0_dev112_lt : ∀ (v1 : BitVec 32) (k0_hw1 : k0_chk1 v1), (k0_dev112 v1) < nD := fun v1 k0_hw1 => k0_hw1.2.2.2.2.2.2.2.2.2.2.2.2.2.2.2.2.2.2.2.2.2.2.2.2.1
theorem k0_dev114_lt : ∀ (v1 : BitVec 32) (k0_hw1 : k0_chk1 v1), (k0_dev114 v1) < nD := fun v1 k0_hw1 => k0_hw1.2.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.2.2.2.2.2.2.2.2.2.2.2.2.2.2.2.2.2.2.2.2.2.2.2.2.2.2.1
theorem k0_dev120_lt : ∀ (v1 : BitVec 32) (k0_hw1 : k0_chk1 v1), (k0_dev120 v1) < nD := fun v1 k0_hw1 => k0_hw1.2.2.2.2.2.2.2.2.2.2.2.2.2.2.2.2.2.2.2.2.2.2.2.2.2.2.2.2.1
theorem k0_dev122_lt : ∀ (v1 : BitVec 32) (k0_hw1 : k0_chk1 v1), (k0_dev122 v1) < nD := fun v1 k0_hw1 => k0_hw1.2.2.2.2.2.2.2.2.2.2.2.2.2.2.2.2.2.2.2.2.2.2.2.2.2.2.2.2.2

def k0_off31 (v4063 : BitVec 32) : Fin 2 → Nat :=
  let c128_i32_5770 : BitVec 32 := 128#32
  let v4064 : BitVec 32 := Scalar.muli v4063 c128_i32_5770
  let v4065 : Index := Scalar.indexCast v4064
  let c0_5771 : Index := 0#32
  ![v4065.toNat, 0]

def k0_chk33 (v4063 : BitVec 32) : Prop :=
  (∀ a, (k0_off31 v4063) a + S128x128.size a ≤ S2048x128.size a)
theorem k0_off31_inb : ∀ (v4063 : BitVec 32) (k0_hw33 : k0_chk33 v4063), ∀ a, (k0_off31 v4063) a + S128x128.size a ≤ S2048x128.size a := fun v4063 k0_hw33 => k0_hw33

def k0_off32 (v4071 : BitVec 32) : Fin 2 → Nat :=
  let c128_i32_5775 : BitVec 32 := 128#32
  let v4072 : BitVec 32 := Scalar.muli v4071 c128_i32_5775
  let v4073 : Index := Scalar.indexCast v4072
  let c0_5776 : Index := 0#32
  ![v4073.toNat, 0]

def k0_chk34 (v4071 : BitVec 32) : Prop :=
  (∀ a, (k0_off32 v4071) a + S128x128.size a ≤ S2048x128.size a)
theorem k0_off32_inb : ∀ (v4071 : BitVec 32) (k0_hw34 : k0_chk34 v4071), ∀ a, (k0_off32 v4071) a + S128x128.size a ≤ S2048x128.size a := fun v4071 k0_hw34 => k0_hw34

abbrev stage0_0 : Fin 1 → Memref sig .tc .smem S34 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
  The kernel's body written as a short program over symbolic steps.

  The printed body is one straight line of about a thousand memory operations. Here the same operations are given once
  each, at a symbolic hop `t` of the ring and a symbolic column block `j`, and the body is the chain of these steps
  (`bodyP`); `Proof/ProgEq.lean` shows that the printed body is this chain.
-/
module

public import proofs.«01_k».proof.Proof.Gen.KernelIdeal.Skeleton

@[expose] public section

noncomputable section

namespace Cert.Proof

open Cert.KernelIdeal Cert.KernelIdeal.Gen
open Idealize.ShloMosaic Idealize.SL.Sem

/-- A program of the kernel's TensorCore. -/
abbrev Pr (F : FTy → Type) (α : Type) : Type 1 := Prog (TpuEff nD τ sig (Elt F) Λ₀ .tc) α

variable {F : FTy → Type} [FloatOps F]

/-! ## Side conditions at symbolic indices -/

theorem slot_inb {t j : ℕ} (ht : t < 16) (hj : j < 4) :
    ∀ a, (![t, j, 0, 0] : Fin 4 → ℕ) a + S1x1x128x256.size a ≤ S16x4x128x256.size a := by
  intro a; fin_cases a <;> simp <;> omega

theorem sem_inb {t j : ℕ} (ht : t < 15) (hj : j < 4) : ∀ a, (![t, j] : Fin 2 → ℕ) a + S1x1.size a ≤ S15x4.size a := by
  intro a; fin_cases a <;> simp <;> omega

theorem meta_inb {k : ℕ} (hk : k < 34) : ∀ a, (![k] : Fin 1 → ℕ) a + S1.size a ≤ S34.size a := by
  intro a; fin_cases a; simp; omega

theorem cut_slices {j : ℕ} (hj : j < 4) : S128x1024.Slices ![0, 256 * j] S128x256 := by
  obtain rfl | rfl | rfl | rfl : j = 0 ∨ j = 1 ∨ j = 2 ∨ j = 3 := by omega
  · exact slices_S128x1024_o0_0_S128x256
  · exact slices_S128x1024_o0_256_S128x256
  · exact slices_S128x1024_o0_512_S128x256
  · exact slices_S128x1024_o0_768_S128x256

/-- Block `j` of the columns a direction owns lies inside the output. -/
theorem out_inb {o j : ℕ} (ho : o ≤ 1024) (hj : j < 4) :
    ∀ a, (![0, o + 256 * j] : Fin 2 → ℕ) a + S128x256.size a ≤ S128x2048.size a := by
  intro a; fin_cases a <;> simp; omega

theorem slot_words {t j : ℕ} (ht : t < 16) (hj : j < 4) :
    (Rect.unit (s := S16x4x128x256) ![t, j, 0, 0] S1x1x128x256.size (slot_inb ht hj)).WholeWords (EltTy.packing .bf16) := by
  have h : ∀ (t : Fin 16) (j : Fin 4), (Rect.unit (s := S16x4x128x256) ![t.val, j.val, 0, 0] S1x1x128x256.size (slot_inb t.2 j.2)).WholeWords (EltTy.packing .bf16) := by
    decide
  exact h ⟨t, ht⟩ ⟨j, hj⟩

theorem slot_packed {t j : ℕ} (ht : t < 16) (hj : j < 4) :
    (Rect.unit (s := S16x4x128x256) ![t, j, 0, 0] S1x1x128x256.size (slot_inb ht hj)).PackedRows (EltTy.packing .bf16) := by
  have h : ∀ (t : Fin 16) (j : Fin 4), (Rect.unit (s := S16x4x128x256) ![t.val, j.val, 0, 0] S1x1x128x256.size (slot_inb t.2 j.2)).PackedRows (EltTy.packing .bf16) := by
    decide
  exact h ⟨t, ht⟩ ⟨j, hj⟩

/-! ## Views -/

/-- Slot `(t, j)` of a communication buffer, as a rectangle of it. -/
abbrev slotR (t j : ℕ) (ht : t < 16) (hj : j < 4) : Rect S16x4x128x256 :=
  Rect.unit (s := S16x4x128x256) ![t, j, 0, 0] S1x1x128x256.size (slot_inb ht hj)

/-- Slot `(t, j)` of a communication buffer, as the end of a copy. -/
abbrev slotM (m : Memref sig .tc .vmem S16x4x128x256 .bf16) (t j : ℕ) (ht : t < 16) (hj : j < 4) : Memref sig .tc .vmem S128x256 .bf16 :=
  (m.slice (slotR t j ht hj) (fun _ => rfl)).squeeze S128x256 squeezes_S1x1x128x256_S128x256

/-- Entry `(t, j)` of an array of DMA semaphores. -/
abbrev semAt (a : DmaSems sig S15x4) (t j : ℕ) (ht : t < 15) (hj : j < 4) : DmaSem sig :=
  ((a.slice (Rect.unit (s := S15x4) ![t, j] S1x1.size (sem_inb ht hj))).squeeze S_ squeezes_S1x1_S_).sem

/-- The barrier semaphore. -/
abbrev barS : Sem sig := (SemArray.scalar (sig.barrier 0 rfl) : Sems sig S_).sem

/-! ## Values -/

/-- One device's share of a chunk of the product: 128 rows of its `x` by half the columns of its `w`. -/
def prodV (x : Vec F S128x128 .f32) (w : Vec F S128x1024 .f32) : FVec F S128x1024 .f32 :=
  matmul dot_S128x128_S128x1024_S128x1024_1_0_0_1_n_n none (shapeCast S128x128 x shapeCasts_S128x128_S128x128)
    (shapeCast S128x1024 w shapeCasts_S128x1024_S128x1024) (constant S128x1024 .f32 0x00000000#32)

/-- Column block `j` of a share. -/
def cutV (p : FVec F S128x1024 .f32) (j : ℕ) (hj : j < 4) : FVec F S128x256 .f32 :=
  extractStridedSlice S128x256 ![0, 256 * j] p (cut_slices hj)

/-- What the ring starts with: a column block of the device's own share, rounded. -/
def firstV (p : FVec F S128x1024 .f32) (j : ℕ) (hj : j < 4) : FVec F S1x1x128x256 .bf16 :=
  shapeCast S1x1x128x256 (truncf .bf16 (cutV p j hj) bitsLt_bf16_f32) shapeCasts_S128x256_S1x1x128x256

/-- What arrived, plus the device's own share. -/
def accV (p : FVec F S128x1024 .f32) (j : ℕ) (hj : j < 4) (v : Vec F S1x1x128x256 .bf16) : FVec F S128x256 .f32 :=
  addf (extf .f32 (shapeCast S128x256 v shapeCasts_S1x1x128x256_S128x256) bitsLt_bf16_f32) (cutV p j hj)

/-- What is passed on: the sum so far, rounded. -/
def nextV (p : FVec F S128x1024 .f32) (j : ℕ) (hj : j < 4) (v : Vec F S1x1x128x256 .bf16) : FVec F S1x1x128x256 .bf16 :=
  shapeCast S1x1x128x256 (truncf .bf16 (accV p j hj v) bitsLt_bf16_f32) shapeCasts_S128x256_S1x1x128x256

/-- The activation. -/
def geluV (y : FVec F S128x256 .f32) : FVec F S128x256 .f32 :=
  mulf (mulf (broadcast S128x256 (Scalar.ofBits .f32 0x3F000000#32)) y)
    (addf (broadcast S128x256 (Scalar.ofBits .f32 0x3F800000#32))
      (tanh (mulf (broadcast S128x256 (Scalar.ofBits .f32 0x3F4C422A#32))
        (addf y (mulf (mulf (mulf (broadcast S128x256 (Scalar.ofBits .f32 0x3D372713#32)) y) y) y)))))

/-! ## Steps -/

section Steps

variable (m : Memref sig .tc .vmem S16x4x128x256 .bf16) (hm : m.IsWhole) (ss rs : DmaSems sig S15x4)

/-- Start the copy of slot `(t, j)` to slot `(t + 1, j)` of device `d`. -/
def sendP (t j : ℕ) (ht : t < 15) (hj : j < 4) (d : Dev nD) : Pr F PUnit :=
  Prog.lift (.enqueueDma (slotM m t j (by omega) hj)
    (.remote (Dev.tc d) (slotM m (t + 1) j (by omega) hj) (.dma (semAt ss t j ht hj))) (.dma (semAt rs t j ht hj))
    ((hm.wordExact_slice rfl _ (slot_words (by omega) hj)).reshape _ _) ((hm.wordExact_slice rfl _ (slot_words (by omega) hj)).reshape _ _)
    ⟨⟨rfl, Or.inl rfl⟩, trivial⟩)

/-- Read slot `(t, j)`. -/
def getP (t j : ℕ) (ht : t < 16) (hj : j < 4) : Pr F (Vec F S1x1x128x256 .bf16) :=
  Prog.lift (.load m (slotR t j ht hj).toLoadRect (View.loadsAt_vmem h_S1x1x128x256))

/-- Write slot `(t, j)`. -/
def putP (t j : ℕ) (ht : t < 16) (hj : j < 4) (v : FVec F S1x1x128x256 .bf16) : Pr F PUnit :=
  Prog.lift (.store m (slotR t j ht hj) v Finset.univ
    (View.stores_vmem h_S1x1x128x256 (hm.storeExact_slice rfl _ (slot_packed ht hj)) (fun _ => rfl)) (.inl rfl))

/-- Wait for the copy that lands in slot `(t + 1, j)`. -/
def waitRecvP (t j : ℕ) (ht : t < 15) (hj : j < 4) : Pr F PUnit :=
  Prog.lift (.waitDma2 (semAt rs t j ht hj) (slotM m t j (by omega) hj) (slotM m (t + 1) j (by omega) hj)
    ((hm.wordExact_slice rfl _ (slot_words (by omega) hj)).reshape _ _) ((hm.wordExact_slice rfl _ (slot_words (by omega) hj)).reshape _ _))

/-- Wait for the copy out of slot `(t, j)`. -/
def waitSendP (t j : ℕ) (ht : t < 15) (hj : j < 4) : Pr F PUnit :=
  Prog.lift (.waitDma2 (semAt ss t j ht hj) (slotM m (t + 1) j (by omega) hj) (slotM m t j (by omega) hj)
    ((hm.wordExact_slice rfl _ (slot_words (by omega) hj)).reshape _ _) ((hm.wordExact_slice rfl _ (slot_words (by omega) hj)).reshape _ _))

/-- The device's own share into slot `(0, j)`. -/
def firstP (j : ℕ) (hj : j < 4) (p : FVec F S128x1024 .f32) : Pr F PUnit := do
  let _ ← getP m 0 j (by omega) hj
  putP m hm 0 j (by omega) hj (firstV p j hj)

/-- Slot `(t + 1, j)`: wait for what lands there, add the own share, pass it on. -/
def hopP (t j : ℕ) (ht : t < 14) (hj : j < 4) (d : Dev nD) (p : FVec F S128x1024 .f32) : Pr F PUnit := do
  waitRecvP m hm rs t j (by omega) hj
  let v ← getP m (t + 1) j (by omega) hj
  let _ ← getP m (t + 1) j (by omega) hj
  putP m hm (t + 1) j (by omega) hj (nextV p j hj v)
  sendP m hm ss rs (t + 1) j (by omega) hj d

/-- Slot `(15, j)`: wait for what lands there, add the own share, and the activation of it into the output's block at
    column `o + 256 j`. -/
def outP (out : Memref sig .tc .vmem S128x2048 .f32) (o j : ℕ) (ho : o ≤ 1024) (hj : j < 4) (p : FVec F S128x1024 .f32) : Pr F PUnit := do
  waitRecvP m hm rs 14 j (by omega) hj
  let v ← getP m 15 j (by omega) hj
  let _ ← Prog.lift (.load out (Rect.unit (s := S128x2048) ![0, o + 256 * j] S128x256.size (out_inb ho hj)).toLoadRect (View.loadsAt_vmem h_S128x256))
  Prog.lift (.store out (Rect.unit (s := S128x2048) ![0, o + 256 * j] S128x256.size (out_inb ho hj)) (geluV (accV p j hj v)) Finset.univ
    (View.stores_vmem_bits_univ h_S128x256 rfl) (.inl rfl))

end Steps

section Chain

variable (arg0 : Memref sig .tc .smem S34 .i32) (arg1 : Memref sig .tc .vmem S2048x128 .f32)
  (arg2 : Memref sig .tc .vmem S128x2048 .f32) (arg3 : Memref sig .tc .vmem S128x2048 .f32)
  (arg4 : Memref sig .tc .vmem S16x4x128x256 .bf16) (harg4 : arg4.IsWhole)
  (arg5 : Memref sig .tc .vmem S16x4x128x256 .bf16) (harg5 : arg5.IsWhole)
  (arg6 arg7 arg8 arg9 : DmaSems sig S15x4)

/-- Word `k` of the table. -/
def metaP (k : ℕ) (hk : k < 34) : Pr F (Elt F .i32) :=
  smemLoad arg0 (Rect.unit (s := S34) ![k] S1.size (meta_inb hk)) numel1_S1 rfl

/-- The share of the chunk that word `k` names, by the columns from `o`. -/
def shareP (k : ℕ) (hk : k < 34) (o : ℕ) (ho : ∀ a, (![0, o] : Fin 2 → ℕ) a + S128x1024.size a ≤ S128x2048.size a) :
    Pr F (FVec F S128x1024 .f32) := do
  let v ← metaP arg0 k hk
  have hv : k0_chk3 v := (← Prog.lift (TpuEff.assume (k0_chk3 v) (k0_chk3.dec v))).down
  let x ← Prog.lift (.load arg1 (Rect.unit (s := S2048x128) (k0_off1 v) S128x128.size (k0_off1_inb v hv)).toLoadRect (View.loadsAt_vmem h_S128x128))
  let w ← Prog.lift (.load arg2 (Rect.unit (s := S128x2048) ![0, o] S128x1024.size ho).toLoadRect (View.loadsAt_vmem h_S128x1024))
  pure (prodV x w)

/-- Column block `j` of the first slots, both directions. -/
def startP (dr dl : Dev nD) (pa pb : FVec F S128x1024 .f32) (j : ℕ) (hj : j < 4) : Pr F PUnit := do
  firstP arg4 harg4 j hj pa
  firstP arg5 harg5 j hj pb
  sendP arg4 harg4 arg6 arg7 0 j (by omega) hj dr
  sendP arg5 harg5 arg8 arg9 0 j (by omega) hj dl

/-- Column block `j` of a hop, both directions. -/
def hopsP (t : ℕ) (ht : t < 14) (dr dl : Dev nD) (pa pb : FVec F S128x1024 .f32) (j : ℕ) (hj : j < 4) : Pr F PUnit := do
  hopP arg4 harg4 arg6 arg7 t j ht hj dr pa
  hopP arg5 harg5 arg8 arg9 t j ht hj dl pb

/-- The waits for the copies out of slots `(t, j)`, both directions. -/
def drainP (t : ℕ) (ht : t < 15) (j : ℕ) (hj : j < 4) : Pr F PUnit := do
  waitSendP arg4 harg4 arg6 t j ht hj
  waitSendP arg5 harg5 arg8 t j ht hj

/-- The last slots' column block `j`, both directions. -/
def outsP (pa pb : FVec F S128x1024 .f32) (j : ℕ) (hj : j < 4) : Pr F PUnit := do
  outP arg4 harg4 arg7 arg3 0 j (by omega) hj pa
  outP arg5 harg5 arg9 arg3 1024 j (by omega) hj pb

/-- A step for each of the four column blocks. -/
def four (f : (j : ℕ) → j < 4 → Pr F PUnit) : Pr F PUnit := do
  f 0 (by omega)
  f 1 (by omega)
  f 2 (by omega)
  f 3 (by omega)

/-- The two shares that hop `t` adds. -/
def sharesP (t : ℕ) (ht : t < 16) : Pr F (FVec F S128x1024 .f32 × FVec F S128x1024 .f32) := do
  let pa ← shareP arg0 arg1 arg2 (2 + t) (by omega) 0 inb_S128x2048_S128x1024_0_0
  let pb ← shareP arg0 arg1 arg2 (18 + t) (by omega) 1024 inb_S128x2048_S128x1024_0_1024
  pure (pa, pb)

/-- From hop `t` on: `n` hops that pass on, then the last. -/
def hopsFrom (dr dl : Dev nD) : (n t : ℕ) → n + t = 14 → FVec F S128x1024 .f32 → FVec F S128x1024 .f32 → Pr F PUnit
  | 0, _, _, pa, pb => do
    four (outsP arg3 arg4 harg4 arg5 harg5 arg7 arg9 pa pb)
    four (drainP arg4 harg4 arg5 harg5 arg6 arg8 14 (by omega))
  | n + 1, t, h, pa, pb => do
    four (hopsP arg4 harg4 arg5 harg5 arg6 arg7 arg8 arg9 t (by omega) dr dl pa pb)
    four (drainP arg4 harg4 arg5 harg5 arg6 arg8 t (by omega))
    let p ← sharesP arg0 arg1 arg2 (t + 2) (by omega)
    hopsFrom dr dl n (t + 1) (by omega) p.1 p.2

/-- The body: greet both neighbours, wait for both, then round the ring in both directions. -/
def bodyP : Pr F PUnit := do
  let v0 ← metaP arg0 0 (by omega)
  have h0 : k0_chk2 v0 := (← Prog.lift (TpuEff.assume (k0_chk2 v0) (k0_chk2.dec v0))).down
  let v1 ← metaP arg0 1 (by omega)
  have h1 : k0_chk1 v1 := (← Prog.lift (TpuEff.assume (k0_chk1 v1) (k0_chk1.dec v1))).down
  semSignalWord (⟨k0_dev1 v1, k0_dev1_lt v1 h1⟩ : Dev nD) barS 1#32
  semSignalWord (⟨k0_dev2 v0, k0_dev2_lt v0 h0⟩ : Dev nD) barS 1#32
  let p ← sharesP arg0 arg1 arg2 0 (by omega)
  semWaitWord barS 2#32
  four (startP arg4 harg4 arg5 harg5 arg6 arg7 arg8 arg9 ⟨k0_dev2 v0, k0_dev2_lt v0 h0⟩ ⟨k0_dev1 v1, k0_dev1_lt v1 h1⟩ p.1 p.2)
  let q ← sharesP arg0 arg1 arg2 1 (by omega)
  hopsFrom arg0 arg1 arg2 arg3 arg4 harg4 arg5 harg5 arg6 arg7 arg8 arg9 ⟨k0_dev2 v0, k0_dev2_lt v0 h0⟩ ⟨k0_dev1 v1, k0_dev1_lt v1 h1⟩ 14 0 rfl q.1 q.2

end Chain

end Cert.Proof

end
-- ==== Proof.Ring.lean ====
/-
  The ring the kernel's devices form, as arithmetic, and the table of words each device reads it from.

  The sixteen devices stand in a ring in the order `perm`. Direction `false` runs to the right of it, direction `true` to the
  left: `nb d c` is the device that `c` sends to in direction `d`, so it receives from `nb (!d) c`. In direction `d` device
  `c` adds, at hop `t`, its share of chunk `ch d c t`; what it passes on is its neighbour's sum for the same chunk
  (`ch_next`), and at the last hop the chunk is its own (`ch_last`).
-/
module

public import proofs.«01_k».proof.Proof.Prog

@[expose] public section

noncomputable section

namespace Cert.Proof

open Cert.KernelIdeal Cert.KernelIdeal.Gen
open Idealize.ShloMosaic Idealize.SL.Sem

/-- The device at each position of the ring. -/
def perm : Fin 16 → Fin 16 := ![0, 4, 8, 12, 13, 9, 5, 1, 2, 6, 10, 14, 15, 11, 7, 3]

/-- The position of each device in the ring. -/
def iperm : Fin 16 → Fin 16 := ![0, 7, 8, 15, 1, 6, 9, 14, 2, 5, 10, 13, 3, 4, 11, 12]

/-- The device next to `c` in direction `d`. -/
def nb (d : Bool) (c : Dev nD) : Dev nD := perm (if d then iperm c - 1 else iperm c + 1)

/-- The chunk device `c` adds to at hop `t` of direction `d`. -/
def ch (d : Bool) (c : Dev nD) (t : Fin 16) : Dev nD := perm (if d then iperm c + 1 + t else iperm c - 1 - t)

theorem nb_back (d : Bool) (c : Dev nD) : nb (!d) (nb d c) = c := by revert d c; decide
theorem nb_forth (d : Bool) (c : Dev nD) : nb d (nb (!d) c) = c := by revert d c; decide
theorem ch_next (d : Bool) (c : Dev nD) (t : Fin 15) : ch d (nb (!d) c) t.castSucc = ch d c t.succ := by revert d c t; decide
theorem ch_last (d : Bool) (c : Dev nD) : ch d c 15 = c := by revert d c; decide

/-- Word `k` of device `c`'s table: its two neighbours, then the chunks of the two directions. -/
def metaN (c : Dev nD) (k : Fin 34) : ℕ :=
  if k.val = 0 then (nb false c).val
  else if k.val = 1 then (nb true c).val
  else if h : k.val < 18 then (ch false c ⟨k.val - 2, by omega⟩).val
  else (ch true c ⟨k.val - 18, by have := k.isLt; omega⟩).val

/-- The same word as the table holds it. -/
def metaW (c : Dev nD) (k : Fin 34) : BitVec 32 := BitVec.ofNat 32 (metaN c k)

/-- The word of the chunk of hop `t` in direction `d`. -/
def chK (d : Bool) (t : Fin 16) : Fin 34 := ⟨(if d then 18 else 2) + t.val, by have := t.isLt; split <;> omega⟩

theorem chk_right (c : Dev nD) : k0_chk2 (metaW c 0) := by revert c; decide
theorem chk_left (c : Dev nD) : k0_chk1 (metaW c 1) := by revert c; decide
theorem dev_right (c : Dev nD) : (⟨k0_dev2 (metaW c 0), k0_dev2_lt _ (chk_right c)⟩ : Dev nD) = nb false c := by revert c; decide
theorem dev_left (c : Dev nD) : (⟨k0_dev1 (metaW c 1), k0_dev1_lt _ (chk_left c)⟩ : Dev nD) = nb true c := by revert c; decide
theorem chk_chunk (d : Bool) (c : Dev nD) (t : Fin 16) : k0_chk3 (metaW c (chK d t)) := by revert d c t; decide
theorem off_chunk (d : Bool) (c : Dev nD) (t : Fin 16) : k0_off1 (metaW c (chK d t)) = ![128 * (ch d c t).val, 0] := by
  have h : ∀ d c t a, k0_off1 (metaW c (chK d t)) a = (![128 * (ch d c t).val, 0] : Fin 2 → ℕ) a := by decide
  exact funext (h d c t)

end Cert.Proof

end
-- ==== Proof.Proto.lean ====
/-
  The protocol of the ring.

  Every device `c` sends 60 blocks in each direction: block `k = 4 t + j` leaves slot `k` of its communication buffer of the
  direction and lands in slot `k + 4` of its neighbour's. Each block has a send cell on the sender, which returns the source
  slot, and a receive cell on the receiver, which hands over the landed slot WITH ITS CONTENTS: the sender's sum so far,
  `sumF`. The barrier cell of `c` is raised once by each neighbour: the one that `c` sends to in direction `d` hands over the
  slots `c`'s copies will land in, and that its receive cells are open.

  Levels: the send cells and the staging cells are at 0, the barrier at 1, the receive cells of hop `t` at `t + 2`. A
  device waiting for hop `t`'s landing owes landings of later hops only.
-/
module

public import proofs.«01_k».proof.Proof.Ring
public import Idealize.ShloMosaic.Lib.Pipeline.Launch
public import Idealize.ShloMosaic.Lib.Pipeline.RegionTalk
public import Idealize.ShloMosaic.Lib.Rounds
public import Idealize.SL.BI.BigOpNat
public import Idealize.ShloMosaic.Lib.Tactic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds library's algebra for the pipeline's staging cells, -/
abbrev UP : Type := URounds (GSem nD τ sig) Unit

/-- and for the ring's cells, whose duties are named by a direction. -/
abbrev UT : Type := URounds (GSem nD τ sig) Bool

abbrev UU : Type := UP × UT

local notation "𝕄" => MT nD τ sig Unit (Elt F) ℕ UU ℕ

variable (F) in
def EP : Emb UP (MT nD τ sig Unit (Elt F) ℕ UU ℕ) :=
  (Emb.inl : Emb UP UU).trans (uEmb (nD := nD) (sig := sig) (Ix := Unit) (Val := Elt F) (Name := ℕ) (U := UU) (Lvl := ℕ)).toEmb

variable (F) in
def ER : Emb UT (MT nD τ sig Unit (Elt F) ℕ UU ℕ) :=
  (Emb.inr : Emb UT UU).trans (uEmb (nD := nD) (sig := sig) (Ix := Unit) (Val := Elt F) (Name := ℕ) (U := UU) (Lvl := ℕ)).toEmb

omit [FloatOps F] in
theorem EP_lands : (EP F).LandsIn (upEmb : UEmb _ 𝕄) := by unfold EP; infer_instance
omit [FloatOps F] in
theorem ER_lands : (ER F).LandsIn (upEmb : UEmb _ 𝕄) := by unfold ER; infer_instance

instance : (EP F).LandsIn (upEmb : UEmb _ 𝕄) := EP_lands
instance : (ER F).LandsIn (upEmb : UEmb _ 𝕄) := ER_lands

/-! ## Slots -/

/-- The communication buffer of a direction. -/
def comm (d : Bool) : Memref sig .tc .vmem S16x4x128x256 .bf16 :=
  if d then Memref.whole cc0_scratch1 else Memref.whole cc0_scratch0

theorem comm_whole (d : Bool) : (comm d).IsWhole := by cases d <;> exact Memref.isWhole_whole _

/-- The send and the receive semaphores of a direction. -/
def sndS (d : Bool) : DmaSems sig S15x4 := if d then cc0_scratch4 else cc0_scratch2
def rcvS (d : Bool) : DmaSems sig S15x4 := if d then cc0_scratch5 else cc0_scratch3

theorem slotM_congr (m : Memref sig .tc .vmem S16x4x128x256 .bf16) {t t' j j' : ℕ} (ht : t < 16) (hj : j < 4) (e : t = t') (e' : j = j') :
    slotM m t j ht hj = slotM m t' j' (e ▸ ht) (e' ▸ hj) := by subst e e'; rfl

/-- Slot `q = 4 t + j` of a direction's buffer. -/
def slotF (d : Bool) (q : ℕ) : Memref sig .tc .vmem S128x256 .bf16 :=
  slotM (comm d) (q / 4 % 16) (q % 4) (Nat.mod_lt _ (by decide)) (Nat.mod_lt _ (by decide))

theorem slotF_mk (d : Bool) {t j : ℕ} (ht : t < 16) (hj : j < 4) : slotF d (4 * t + j) = slotM (comm d) t j ht hj :=
  slotM_congr _ _ _ (by omega) (by omega)

theorem slotF_succ (d : Bool) {t j : ℕ} (ht : t + 1 < 16) (hj : j < 4) : slotF d (4 * t + j + 4) = slotM (comm d) (t + 1) j ht hj :=
  slotM_congr _ _ _ (by omega) (by omega)

/-- What one block's copy credits. -/
def N : ℕ := (slotM (Memref.whole cc0_scratch0) 0 0 (by decide) (by decide)).view.dmaCredit

theorem credit_slotM (d : Bool) (t j : ℕ) (ht : t < 16) (hj : j < 4) : (slotM (comm d) t j ht hj).view.dmaCredit = N := by
  cases d <;> rfl

theorem N_pos : 0 < N := by decide

/-! ## Cells -/

theorem idx_lt (b : ℕ) (d : Bool) (k : ℕ) (hb : b ≤ 64) : b + 120 * d.toNat + k % 60 < 244 := by
  have := Nat.mod_lt k (show 0 < 60 by decide); have := Bool.toNat_le d; omega

/-- The send and the receive semaphore of block `k`. -/
def sIx (d : Bool) (k : ℕ) : DmaSem sig := ⟨4 + 120 * d.toNat + k % 60, idx_lt 4 d k (by decide)⟩
def rIx (d : Bool) (k : ℕ) : DmaSem sig := ⟨64 + 120 * d.toNat + k % 60, idx_lt 64 d k (by decide)⟩

abbrev sendC (c : Dev nD) (d : Bool) (k : ℕ) : GSem nD τ sig := ((c : Thread nD τ), .dma (sIx d k))
abbrev recvC (c : Dev nD) (d : Bool) (k : ℕ) : GSem nD τ sig := ((c : Thread nD τ), .dma (rIx d k))
abbrev barC (c : Dev nD) : GSem nD τ sig := ((c : Thread nD τ), .reg barS)

theorem semAt_snd (d : Bool) {t j : ℕ} (ht : t < 15) (hj : j < 4) : semAt (sndS d) t j ht hj = sIx d (4 * t + j) := by
  have h : ∀ (d : Bool) (t : Fin 15) (j : Fin 4), semAt (sndS d) t j t.2 j.2 = sIx d (4 * t + j) := by decide
  exact h d ⟨t, ht⟩ ⟨j, hj⟩

theorem semAt_rcv (d : Bool) {t j : ℕ} (ht : t < 15) (hj : j < 4) : semAt (rcvS d) t j ht hj = rIx d (4 * t + j) := by
  have h : ∀ (d : Bool) (t : Fin 15) (j : Fin 4), semAt (rcvS d) t j t.2 j.2 = rIx d (4 * t + j) := by decide
  exact h d ⟨t, ht⟩ ⟨j, hj⟩

/-- What a DMA semaphore is for: nothing here, or (is it a receive cell, the direction, the block). -/
def role (i : DmaSem sig) : Option (Bool × Bool × ℕ) :=
  if i.val < 4 then none else some (decide ((i.val - 4) / 60 % 2 = 1), decide ((i.val - 4) / 120 = 1), (i.val - 4) % 60)

theorem role_snd (d : Bool) {k : ℕ} (hk : k < 60) : role (sIx d k) = some (false, d, k) := by
  have h : ∀ (d : Bool) (k : Fin 60), role (sIx d k) = some (false, d, k.val) := by decide
  exact h d ⟨k, hk⟩

theorem role_rcv (d : Bool) {k : ℕ} (hk : k < 60) : role (rIx d k) = some (true, d, k) := by
  have h : ∀ (d : Bool) (k : Fin 60), role (rIx d k) = some (true, d, k.val) := by decide
  exact h d ⟨k, hk⟩

/-! ## Contents -/

/-- The sum passed on: what arrived plus column block `j` of the own share, before rounding. -/
def plusV (p : FVec F S128x1024 .f32) (j : ℕ) (hj : j < 4) (X : FVec F S128x256 .bf16) : FVec F S128x256 .f32 :=
  addf (extf .f32 X bitsLt_bf16_f32) (cutV p j hj)

variable (P : Dev nD → Bool → ℕ → FVec F S128x1024 .f32)

/-- What device `c` sends at hop `t` of direction `d`, column block `j`, when its share at hop `t` is `P c d t`. -/
def sumV (d : Bool) (j : ℕ) (hj : j < 4) : ℕ → Dev nD → FVec F S128x256 .bf16
  | 0, c => truncf .bf16 (cutV (P c d 0) j hj) bitsLt_bf16_f32
  | t + 1, c => truncf .bf16 (plusV (P c d (t + 1)) j hj (sumV d j hj t (nb (!d) c))) bitsLt_bf16_f32

/-- The same by the block's number. -/
def sumF (c : Dev nD) (d : Bool) (k : ℕ) : FVec F S128x256 .bf16 := sumV P d (k % 4) (Nat.mod_lt _ (by decide)) (k / 4) c

theorem sumF_mk (c : Dev nD) (d : Bool) {t j : ℕ} (hj : j < 4) : sumF P c d (4 * t + j) = sumV P d j hj t c := by
  have h {j' t' : ℕ} (hj' : j' < 4) (e : j' = j) (e' : t' = t) : sumV P d j' hj' t' c = sumV P d j hj t c := by subst e e'; rfl
  exact h _ (by omega) (by omega)

/-! ## Payloads -/

/-- A slot at any contents. -/
def anySlot (c : Dev nD) (d : Bool) (q : ℕ) : sProp 𝕄 := iprop(∃ X, owns (c : Thread nD τ) (slotF d q) fullShare X)

/-- A slot at the given contents. -/
def slotAt (c : Dev nD) (d : Bool) (q : ℕ) (X : FVec F S128x256 .bf16) : sProp 𝕄 := owns (c : Thread nD τ) (slotF d q) fullShare X

/-- What the receiver gives in advance for block `k`: the slot it lands in, and that its receive cell is open. -/
def gift (c : Dev nD) (d : Bool) (k : ℕ) : sProp 𝕄 := iprop(anySlot c d (k + 4) ∗ reached (ER F) (recvC c d k) 0)

/-- All of them. -/
def gifts (c : Dev nD) (d : Bool) : sProp 𝕄 := bigSep (Finset.Ico 0 60) (gift c d)

/-- What landing `k` hands over: the slot, at the sender's sum. -/
def recvPay (c : Dev nD) (d : Bool) (k : ℕ) : sProp 𝕄 := slotAt c d (k + 4) (sumF P (nb (!d) c) d k)

/-- What DMA semaphore `i` of device `c` hands over. -/
def dmaPay (c : Dev nD) (i : DmaSem sig) : sProp 𝕄 :=
  match role i with
  | none => iprop(emp)
  | some (true, d, k) => recvPay P c d k
  | some (false, d, k) => anySlot c d k

instance anySlot_storable (c : Dev nD) (d : Bool) (q : ℕ) : BI.Storable (upEmb : UEmb _ 𝕄) (anySlot (F := F) c d q) := by
  unfold anySlot; infer_instance
instance slotAt_storable (c : Dev nD) (d : Bool) (q : ℕ) (X : FVec F S128x256 .bf16) : BI.Storable (upEmb : UEmb _ 𝕄) (slotAt (F := F) c d q X) := by
  unfold slotAt; infer_instance
instance gifts_storable (c : Dev nD) (d : Bool) : BI.Storable (upEmb : UEmb _ 𝕄) (gifts (F := F) c d) := by
  unfold gifts gift; infer_instance
instance dmaPay_storable (c : Dev nD) (i : DmaSem sig) : BI.Storable (upEmb : UEmb _ 𝕄) (dmaPay P c i) := by
  unfold dmaPay recvPay; split <;> infer_instance

/-! ## The schedule: one round on every cell -/

def rd : Schedule (GSem nD τ sig) Bool 𝕄 where
  duties g r := if r = 0 ∧ g.1.2 = .tc then (match g.2 with | .reg _ => Finset.univ | .dma _ => {false}) else ∅
  amount g _ _ := match g.2 with | .reg _ => 1 | .dma _ => N
  payload g _ d := match g.2 with | .reg _ => gifts (nb d g.1.1) d | .dma i => dmaPay P g.1.1 i
  amount_pos g _ _ _ := by
    rcases g with ⟨_, _ | _⟩
    · exact Nat.one_pos
    · exact N_pos

instance rd_storable (g : GSem nD τ sig) (r : ℕ) (d : Bool) : BI.Storable (upEmb : UEmb _ 𝕄) ((rd P).payload g r d) := by
  rcases g with ⟨_, _ | _⟩
  · exact inferInstanceAs (BI.Storable (upEmb : UEmb _ 𝕄) (gifts (F := F) _ d))
  · exact inferInstanceAs (BI.Storable (upEmb : UEmb _ 𝕄) (dmaPay P _ _))

theorem duties_bar (c : Dev nD) : (rd P).duties (barC c) 0 = Finset.univ := by
  dsimp only [rd]; exact if_pos ⟨rfl, rfl⟩
theorem duties_dma (c : Dev nD) (i : DmaSem sig) : (rd P).duties ((c : Thread nD τ), .dma i) 0 = {false} := by
  dsimp only [rd]; exact if_pos ⟨rfl, rfl⟩
theorem duties_later (g : GSem nD τ sig) : ∀ r, 0 + 1 ≤ r → (rd P).duties g r = ∅ := fun r hr => if_neg (fun h => by omega)

theorem expect_bar (c : Dev nD) : (rd P).expect (barC c) 0 = 2 := by
  unfold Schedule.expect Schedule.amountOf; rw [duties_bar]; rfl
theorem expect_dma (c : Dev nD) (i : DmaSem sig) : (rd P).expect ((c : Thread nD τ), .dma i) 0 = N := by
  unfold Schedule.expect Schedule.amountOf; rw [duties_dma, Finset.sum_singleton]; rfl

theorem payload_bar (c : Dev nD) (d : Bool) : (rd P).payload (barC c) 0 d = gifts (nb d c) d := rfl
theorem payload_send (c : Dev nD) (d : Bool) {k : ℕ} (hk : k < 60) (b : Bool) : (rd P).payload (sendC c d k) 0 b = anySlot c d k := by
  show dmaPay P c (sIx d k) = _; unfold dmaPay; rw [role_snd d hk]
theorem payload_recv (c : Dev nD) (d : Bool) {k : ℕ} (hk : k < 60) (b : Bool) : (rd P).payload (recvC c d k) 0 b = recvPay P c d k := by
  show dmaPay P c (rIx d k) = _; unfold dmaPay; rw [role_rcv d hk]

theorem rest_bar (c : Dev nD) : bigSep ((rd P).duties (barC c) 0 \ ∅) (fun d => (rd P).payload (barC c) 0 d)
    = iprop(gifts (nb false c) false ∗ gifts (nb true c) true) := by
  rw [Finset.sdiff_empty, duties_bar, show (Finset.univ : Finset Bool) = {false, true} from by decide, bigSep_insert (by decide), bigSep_singleton]; rfl
theorem rest_send (c : Dev nD) (d : Bool) {k : ℕ} (hk : k < 60) :
    bigSep ((rd P).duties (sendC c d k) 0 \ ∅) (fun b => (rd P).payload (sendC c d k) 0 b) = anySlot c d k := by
  rw [Finset.sdiff_empty, duties_dma, bigSep_singleton, payload_send P c d hk]
theorem rest_recv (c : Dev nD) (d : Bool) {k : ℕ} (hk : k < 60) :
    bigSep ((rd P).duties (recvC c d k) 0 \ ∅) (fun b => (rd P).payload (recvC c d k) 0 b) = recvPay P c d k := by
  rw [Finset.sdiff_empty, duties_dma, bigSep_singleton, payload_recv P c d hk]

/-! ## Levels and dues -/

/-- Every TensorCore cell has a level. -/
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

def lv (g : GSem nD τ sig) (_ : Unit) : ℕ :=
  match g.2 with
  | .reg _ => 1
  | .dma i => match role i with
    | some (true, _, k) => k / 4 + 2
    | _ => 0

theorem lv_recv (c : Dev nD) (d : Bool) {k : ℕ} (hk : k < 60) (u : Unit) : lv (recvC c d k) u = k / 4 + 2 := by
  show (match role (rIx d k) with | some (true, _, k) => k / 4 + 2 | _ => 0) = _; rw [role_rcv d hk]
theorem lv_send (c : Dev nD) (d : Bool) {k : ℕ} (hk : k < 60) (u : Unit) : lv (sendC c d k) u = 0 := by
  show (match role (sIx d k) with | some (true, _, k) => k / 4 + 2 | _ => 0) = _; rw [role_snd d hk]

/-- Everything `O` owes is owed above level `b`. -/
def Above (b : ℕ) (O : CellTallies nD τ sig Unit) : Prop := ∀ g u, 0 < O g u → u ∈ L g ∧ b < lv g u

theorem Above.add {b : ℕ} {O O' : CellTallies nD τ sig Unit} (h : Above b O) (h' : Above b O') : Above b (O + O') := by
  intro g u hg
  rw [Pi.add_apply, Finsupp.add_apply] at hg
  rcases Nat.eq_zero_or_pos (O g u) with h0 | hg
  · rw [h0, Nat.zero_add] at hg; exact h' g u hg
  · exact h g u hg

theorem Above.zero (b : ℕ) : Above b 0 := fun _ _ h => absurd h (Nat.lt_irrefl 0)

theorem Above.tally {b : ℕ} (c : Dev nD) (sm : SemLoc sig) (n : ℕ) (h : b < lv ((c : Thread nD τ), sm) ()) :
    Above b (tallyAt ((c : Thread nD τ), sm) () n) := by
  intro g u hg
  rw [tallyAt_apply] at hg
  split at hg
  · rename_i e; rw [e.1, L_tc]; exact ⟨Finset.mem_singleton_self _, h⟩
  · exact absurd hg (Nat.lt_irrefl 0)

/-- The landings device `c` still owes in direction `d` when it has sent `s` blocks. -/
def dueD (c : Dev nD) (d : Bool) (s : ℕ) : CellTallies nD τ sig Unit := ∑ k ∈ Finset.Ico s 60, tallyAt (recvC (nb d c) d k) () N

theorem dueD_pop (c : Dev nD) (d : Bool) {s : ℕ} (hs : s < 60) : dueD c d s = dueD c d (s + 1) + tallyAt (recvC (nb d c) d s) () N := by
  unfold dueD
  rw [show Finset.Ico s 60 = insert s (Finset.Ico (s + 1) 60) from by ext k; simp only [Finset.mem_insert, Finset.mem_Ico]; omega,
    Finset.sum_insert (by simp only [Finset.mem_Ico]; omega), add_comm]

theorem dueD_done (c : Dev nD) (d : Bool) : dueD c d 60 = 0 := by unfold dueD; rw [Finset.Ico_self, Finset.sum_empty]

theorem Above.due {b : ℕ} (c : Dev nD) (d : Bool) (s : ℕ) (hb : b < s / 4 + 2) : Above b (dueD c d s) := by
  unfold dueD
  have h : ∀ S : Finset ℕ, (∀ k ∈ S, s ≤ k ∧ k < 60) → Above b (∑ k ∈ S, tallyAt (recvC (nb d c) d k) () N) := by
    intro S
    induction S using Finset.induction_on with
    | empty => intro _; rw [Finset.sum_empty]; exact .zero b
    | insert a S ha ih =>
      intro h; rw [Finset.sum_insert ha]
      have hk := h a (Finset.mem_insert_self _ _)
      exact (Above.tally _ _ _ (by rw [lv_recv _ _ hk.2]; omega)).add (ih fun k hk => h k (Finset.mem_insert_of_mem hk))
  exact h _ fun k hk => Finset.mem_Ico.mp hk

theorem mayWait_of_above {b : ℕ} {c : Dev nD} {sm : SemLoc sig} {O : CellTallies nD τ sig Unit} (h : Above b O)
    (hb : lv ((c : Thread nD τ), sm) () ≤ b) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (h g u hg).1) (fun p hp => by rw [Finset.mem_singleton.mp hp]; exact hb) (fun g u hg => (h g u hg).2)

/-! ## All cells -/

/-- The send (`false`) or receive (`true`) cell of a block. -/
def kCell (x : Dev nD × Bool × Bool × Fin 60) : GSem nD τ sig := if x.2.1 then recvC x.1 x.2.2.1 x.2.2.2 else sendC x.1 x.2.2.1 x.2.2.2

theorem role_kCell (x : Dev nD × Bool × Bool × Fin 60) : ∃ i, kCell x = ((x.1 : Thread nD τ), .dma i) ∧ role i = some (x.2.1, x.2.2.1, x.2.2.2.val) := by
  rcases x with ⟨c, r, d, k⟩
  cases r
  · exact ⟨sIx d k, rfl, role_snd d k.2⟩
  · exact ⟨rIx d k, rfl, role_rcv d k.2⟩

theorem kCell_inj : Function.Injective kCell := by
  intro x y h
  obtain ⟨i, hi, hri⟩ := role_kCell x
  obtain ⟨i', hi', hri'⟩ := role_kCell y
  rw [hi, hi'] at h
  rcases x with ⟨c, r, d, k⟩
  rcases y with ⟨c', r', d', k'⟩
  obtain ⟨h1, h2⟩ := Prod.mk.inj h
  have hc : c = c' := (Prod.mk.inj h1).1
  have hii : i = i' := by injection h2
  subst hii
  have hx := Option.some.inj (hri.symm.trans hri')
  obtain ⟨e1, e2⟩ := Prod.mk.inj hx
  obtain ⟨e2, e3⟩ := Prod.mk.inj e2
  exact Prod.ext hc (Prod.ext e1 (Prod.ext e2 (Fin.ext e3)))

def kEmb : (Dev nD × Bool × Bool × Fin 60) ↪ GSem nD τ sig := ⟨kCell, kCell_inj⟩
def barEmb : Dev nD ↪ GSem nD τ sig := ⟨fun c => barC c, fun a b h => (Prod.mk.inj (Prod.mk.inj h).1).1⟩

def barCells : Finset (GSem nD τ sig) := Finset.univ.map barEmb
def dmaCells : Finset (GSem nD τ sig) := Finset.univ.map kEmb

theorem bar_mem (c : Dev nD) : barC c ∈ barCells ∪ dmaCells :=
  Finset.mem_union_left _ (Finset.mem_map.mpr ⟨c, Finset.mem_univ _, rfl⟩)
theorem send_mem (c : Dev nD) (d : Bool) {k : ℕ} (hk : k < 60) : sendC c d k ∈ barCells ∪ dmaCells :=
  Finset.mem_union_right _ (Finset.mem_map.mpr ⟨(c, false, d, ⟨k, hk⟩), Finset.mem_univ _, rfl⟩)
theorem recv_mem (c : Dev nD) (d : Bool) {k : ℕ} (hk : k < 60) : recvC c d k ∈ barCells ∪ dmaCells :=
  Finset.mem_union_right _ (Finset.mem_map.mpr ⟨(c, true, d, ⟨k, hk⟩), Finset.mem_univ _, rfl⟩)

theorem disjoint_cells : Disjoint barCells dmaCells := by
  refine Finset.disjoint_left.mpr fun g h h' => ?_
  obtain ⟨c, -, rfl⟩ := Finset.mem_map.mp h
  obtain ⟨x, -, hx⟩ := Finset.mem_map.mp h'
  obtain ⟨i, hi, -⟩ := role_kCell x
  have := (Prod.mk.inj ((show kCell x = barC c from hx).symm.trans hi)).2
  cases this

variable (κ : GSem nD τ sig → ℕ)

/-- The cells' invariants and the levels: what every step may use and none uses up. -/
def Ctx : sProp 𝕄 := iprop(bigSep (barCells ∪ dmaCells) (fun g => cellInv (ER F) (rd P) (κ g) g) ∗ levAts L lv)

instance : BI.Persistent (Ctx P κ) := by unfold Ctx; infer_instance

theorem inv_at {g : GSem nD τ sig} (h : g ∈ barCells ∪ dmaCells) : Ctx P κ ⊢ cellInv (ER F) (rd P) (κ g) g := by
  unfold Ctx; exact sep_elim_left.trans (bigSep_elim h)

theorem lev_at : Ctx P κ ⊢ (levAts L lv : sProp 𝕄) := by unfold Ctx; exact sep_elim_right

/-! ## What a device holds of a direction -/

section Held

variable (c : Dev nD) (d : Bool)

/-- To pay for block `k`: the duties of its two cells. -/
def hT (k : ℕ) : sProp 𝕄 :=
  iprop(dutyTok (ER F) (recvC (nb d c) d k) 0 false ∗ dutyTok (ER F) (sendC c d k) 0 false ∗ reached (ER F) (sendC c d k) 0)
/-- To wait for the landing of block `k`. -/
def hA (k : ℕ) : sProp 𝕄 := iprop(atPos (ER F) (recvC c d k) 0 ∅ 0 ∗ cred (tallyAt (recvC c d k) () N))
/-- To wait for the end of block `k`'s copy: the cell, and what the copy credited. -/
def hB (k : ℕ) : sProp 𝕄 := atPos (ER F) (sendC c d k) 0 ∅ 0
def hC (k : ℕ) : sProp 𝕄 := cred (tallyAt (sendC c d k) () N)
/-- The two cells' counters, done with. -/
def zR (k : ℕ) : sProp 𝕄 := semVal (recvC c d k) 0
def zS (k : ℕ) : sProp 𝕄 := semVal (sendC c d k) 0

/-- `s` blocks sent, `r` landings taken, `w` copies' ends waited for. -/
def St (s r w : ℕ) : sProp 𝕄 :=
  iprop(bigSep (Finset.Ico s 60) (hT c d) ∗ bigSep (Finset.Ico s 60) (gift (nb d c) d)
    ∗ bigSep (Finset.Ico r 60) (hA c d) ∗ bigSep (Finset.Ico w 60) (hB c d) ∗ bigSep (Finset.Ico w s) (hC c d)
    ∗ bigSep (Finset.Ico 0 r) (zR c d) ∗ bigSep (Finset.Ico 0 w) (zS c d) ∗ bigSep (Finset.Ico 0 w) (anySlot c d))

theorem St_send {s r w : ℕ} (hs : s < 60) (hw : w ≤ s) :
    St (F := F) c d s r w ⊢ iprop(hT c d s ∗ gift (nb d c) d s ∗ (hC c d s -∗ St c d (s + 1) r w)) := by
  unfold St
  rw [bigSep_Ico_succ_bot (a := s) (b := 60) hs, bigSep_Ico_succ_bot (a := s) (b := 60) hs, bigSep_Ico_succ_top (a := w) (b := s) hw]
  iintro ⟨⟨H1, H1'⟩, ⟨H2, H2'⟩, H3, H4, H5, H6⟩
  isplitl [H1]; · iexact H1
  isplitl [H2]; · iexact H2
  iintro H
  isplitl [H1']; · iexact H1'
  isplitl [H2']; · iexact H2'
  isplitl [H3]; · iexact H3
  isplitl [H4]; · iexact H4
  isplitl [H5 H]
  · isplitl [H]
    · iexact H
    · iexact H5
  iexact H6

theorem St_recv {s r w : ℕ} (hr : r < 60) : St (F := F) c d s r w ⊢ iprop(hA c d r ∗ (zR c d r -∗ St c d s (r + 1) w)) := by
  unfold St
  rw [bigSep_Ico_succ_bot (a := r) (b := 60) hr, bigSep_Ico_succ_top (a := 0) (b := r) (Nat.zero_le _)]
  iintro ⟨H1, H2, ⟨H3, H3'⟩, H4, H5, H6, H7⟩
  isplitl [H3]; · iexact H3
  iintro H
  isplitl [H1]; · iexact H1
  isplitl [H2]; · iexact H2
  isplitl [H3']; · iexact H3'
  isplitl [H4]; · iexact H4
  isplitl [H5]; · iexact H5
  isplitl [H6 H]
  · isplitl [H]
    · iexact H
    · iexact H6
  iexact H7

theorem St_drain {s r w : ℕ} (hs : s ≤ 60) (hw : w < s) :
    St (F := F) c d s r w ⊢ iprop(hB c d w ∗ hC c d w ∗ (zS c d w -∗ anySlot c d w -∗ St c d s r (w + 1))) := by
  unfold St
  rw [bigSep_Ico_succ_bot (a := w) (b := 60) (by omega), bigSep_Ico_succ_bot (a := w) (b := s) hw,
    bigSep_Ico_succ_top (a := 0) (b := w) (Nat.zero_le _), bigSep_Ico_succ_top (a := 0) (b := w) (Nat.zero_le _)]
  iintro ⟨H1, H2, H3, ⟨H4, H4'⟩, ⟨H5, H5'⟩, H6, H7, H8⟩
  isplitl [H4]; · iexact H4
  isplitl [H5]; · iexact H5
  iintro H H'
  isplitl [H1]; · iexact H1
  isplitl [H2]; · iexact H2
  isplitl [H3]; · iexact H3
  isplitl [H4']; · iexact H4'
  isplitl [H5']; · iexact H5'
  isplitl [H6]; · iexact H6
  isplitl [H7 H]
  · isplitl [H]
    · iexact H
    · iexact H7
  isplitl [H']
  · iexact H'
  · iexact H8

end Held

end Cert.Proof

end
-- ==== Proof.Steps.lean ====
/-
  What each step of the body does, at a symbolic device, hop, column block and direction.

  Reads and writes of a slot give and take the slot's contents as a 128 by 256 block; the copy of block `k` gives up the
  source slot and the neighbour's slot and pays the landing that was owed; a wait for a landing brings the slot with the
  neighbour's sum; a wait for a copy's end brings the source slot back. A cell is closed as soon as its one round is over,
  so what is left of it is its counter at zero.
-/
module

public import proofs.«01_k».proof.Proof.Proto
public import Idealize.ShloMosaic.Lib.Pipeline.Value

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a piece of device `c`'s program. -/
abbrev W (c : Dev nD) {α : Type} (p : Pr F α) (Q : α → sProp 𝕄) : sProp 𝕄 :=
  wp frame (wpE (defs₀ (F := F)) 𝒱₀ (c : Thread nD τ) none) Set.univ p Q

theorem W_bind (c : Dev nD) {α β : Type} (p : Pr F α) (k : α → Pr F β) (Q : β → sProp 𝕄) :
    W c (p >>= k) Q = W c p (fun a => W c (k a) Q) := wp_bind _ _ _ _ _ _

theorem W_pure (c : Dev nD) {α : Type} (a : α) (Q : α → sProp 𝕄) : Q a ⊢ W c (Pure.pure a : Pr F α) Q := by
  iintro H
  rw [W, wp_pure]; imodintro; iexact H

/-! ## Reading and writing a slot -/

section Slots

variable (c : Dev nD) (m : Memref sig .tc .vmem S16x4x128x256 .bf16) (hm : m.IsWhole) (t j : ℕ) (ht : t < 16) (hj : j < 4)

omit [FloatOps F] in
theorem slot_set : (slotM m t j ht hj).view.set = (m.access (slotR t j ht hj) : View sig .tc _ _ _).set := View.set_reshape _ _

omit [FloatOps F] in
/-- A slot's block is what its rectangle reads, regarded as a block. -/
theorem slot_read (f : (m.access (slotR t j ht hj) : View sig .tc _ _ _).ty.Contents (Elt F)) :
    shapeCast S128x256 ((m.access (slotR t j ht hj) : View sig .tc _ _ _).read (Elt F) f) shapeCasts_S1x1x128x256_S128x256
      = (slotM m t j ht hj).view.read (Elt F) f := rfl

omit [FloatOps F] in
/-- Writing a block through the rectangle, the slot holds that block. -/
theorem slot_write (f : (m.access (slotR t j ht hj) : View sig .tc _ _ _).ty.Contents (Elt F)) (w : FVec F S128x256 .bf16) :
    (slotM m t j ht hj).view.read (Elt F)
      ((m.access (slotR t j ht hj) : View sig .tc _ _ _).write (Elt F) f (shapeCast S1x1x128x256 w shapeCasts_S128x256_S1x1x128x256) Finset.univ) = w := by
  rw [← slot_read, View.read_write_univ]; exact shapeCast_shapeCast w _ _

theorem wp_get (X : FVec F S128x256 .bf16) (Q : Vec F S1x1x128x256 .bf16 → sProp 𝕄) :
    iprop(owns (c : Thread nD τ) (slotM m t j ht hj) fullShare X
        ∗ (∀ v, ⌜shapeCast S128x256 v shapeCasts_S1x1x128x256_S128x256 = X⌝ -∗ owns (c : Thread nD τ) (slotM m t j ht hj) fullShare X -∗ Q v))
      ⊢ W c (getP m t j ht hj) Q := by
  unfold getP owns
  iintro ⟨⟨%f, %hf, Hp⟩, HQ⟩
  iapply (wp_load_rect 𝒱₀ (c : Thread nD τ) none Set.univ (m := m) (r := slotR t j ht hj) (by rw [slot_set])) $$ Hp
  iintro Hp
  rw [wp_ret]; imodintro
  ispecialize HQ $$ %((m.access (slotR t j ht hj) : View sig .tc _ _ _).read (Elt F) f)
  iapply HQ
  · ipureintro; rw [slot_read]; exact hf
  · iexists f; isplitr
    · ipureintro; exact hf
    · iexact Hp

theorem wp_put (X w : FVec F S128x256 .bf16) (Q : PUnit → sProp 𝕄) :
    iprop(owns (c : Thread nD τ) (slotM m t j ht hj) fullShare X ∗ (owns (c : Thread nD τ) (slotM m t j ht hj) fullShare w -∗ Q ⟨⟩))
      ⊢ W c (putP m hm t j ht hj (shapeCast S1x1x128x256 w shapeCasts_S128x256_S1x1x128x256)) Q := by
  unfold putP owns
  iintro ⟨⟨%f, %hf, Hp⟩, HQ⟩
  iapply (wp_store 𝒱₀ (c : Thread nD τ) none Set.univ (m := m) (r := slotR t j ht hj) (Mk := Finset.univ) (by rw [slot_set]; exact Finset.Subset.refl _)) $$ Hp
  iintro Hp
  rw [wp_ret]; imodintro
  iapply HQ
  iexists _; isplitr
  · ipureintro; exact slot_write m t j ht hj f w
  · iexact Hp

end Slots

/-! ## Copies and waits -/

section Comm

variable (P : Dev nD → Bool → ℕ → FVec F S128x1024 .f32) (κ : GSem nD τ sig → ℕ) (c : Dev nD) (d : Bool)

/-- What device `c` owes, whatever it has waited for. -/
def Ow (O : CellTallies nD τ sig Unit) : sProp 𝕄 := iprop(∃ Wt, owes (c : Thread nD τ) O Wt)

omit [FloatOps F] in
theorem any_intro (q : ℕ) (X : FVec F S128x256 .bf16) : (owns (c : Thread nD τ) (slotF d q) fullShare X : sProp 𝕄) ⊢ anySlot c d q := by
  unfold anySlot
  iintro H; iexists X; iexact H

theorem pay_send {t j : ℕ} (ht : t < 15) (hj : j < 4) :
    (rd P).payload ((c : Thread nD τ), .dma (semAt (sndS d) t j ht hj)) 0 false = anySlot c d (4 * t + j) := by
  rw [semAt_snd]; exact payload_send P c d (by omega) false

theorem pay_recv {t j : ℕ} (ht : t < 15) (hj : j < 4) :
    (rd P).payload ((c : Thread nD τ), .dma (semAt (rcvS d) t j ht hj)) 0 false
      = owns (c : Thread nD τ) (slotM (comm d) (t + 1) j (by omega) hj) fullShare (sumV P d j hj t (nb (!d) c)) := by
  rw [semAt_rcv]; refine (payload_recv P c d (by omega) false).trans ?_
  unfold recvPay slotAt; rw [slotF_succ d (by omega) hj, sumF_mk P _ d hj]

/-- The elements under a memref are the memref's at what it reads. -/
theorem owns_intro (m : Memref sig .tc .vmem S128x256 .bf16) (X : FVec F S128x256 .bf16) (f : Buf (Elt F) (m.view.loc (c : Thread nD τ)))
    (h : m.view.read (Elt F) f = X) :
    (m.view.loc (c : Thread nD τ) ↦[m.view.set]{fullShare} f : sProp 𝕄) ⊢ owns (c : Thread nD τ) m fullShare X := by
  unfold owns
  iintro H; iexists f; isplitr
  · ipureintro; exact h
  · iexact H

/-- A wait on one of the device's own DMA cells: what the cell hands over, and the cell closed. -/
theorem wp_wait (i : DmaSem sig) (hi : ((c : Thread nD τ), SemLoc.dma i) ∈ barCells ∪ dmaCells)
    {src dst : Memref sig .tc .vmem S128x256 .bf16} {h₁ : src.view.WordExact} {h₂ : dst.view.WordExact} (hN : dst.view.dmaCredit = N)
    (O : CellTallies nD τ sig Unit) {b : ℕ} (hO : Above b O) (hb : lv ((c : Thread nD τ), .dma i) () ≤ b) (Q : PUnit → sProp 𝕄) :
    iprop(Ctx P κ ∗ atPos (ER F) ((c : Thread nD τ), .dma i) 0 ∅ 0 ∗ cred (tallyAt ((c : Thread nD τ), .dma i) () N) ∗ Ow c O
        ∗ (semVal ((c : Thread nD τ), .dma i) 0 -∗ Ow c O -∗ dmaPay P c i -∗ Q ⟨⟩))
      ⊢ W c (Prog.lift (.waitDma2 i src dst h₁ h₂)) Q := by
  unfold Ow
  iintro ⟨#Hctx, Ha, Hc, ⟨%Wt, HO⟩, HQ⟩
  ihave H := (Entails.of_eq (Ctx.eq_1 P κ)) $$ Hctx
  icases H with ⟨-, #Hl⟩
  iapply (Rounds.wp_wait_rest_token 𝒱₀ (ER F) (rd P) (c : Thread nD τ) none (κ := κ ((c : Thread nD τ), .dma i)) (sm := .dma i) (k' := N)
      (fun K => by rw [wpE_waitDma2_eq, hN]) (Set.mem_univ _) () (O := O) (W := Wt) (R := 0) (m := 0) (T := ∅)
      (by rw [expect_dma, Nat.zero_add])) $$ [Ha Hc HO]
  · isplitr; · iapply (inv_at P κ hi); iexact Hctx
    isplitl [Hc]; · iexact Hc
    isplitl [HO]; · iexact HO
    isplitr; · iapply (mayWait_of_above hO hb); iexact Hl
    iexact Ha
  iintro ⟨HO, Ha, -, Hp⟩
  imod (Rounds.cell_close (ER F) (rd P) (Set.mem_univ (κ _)) (fun h => h) (R := 0 + 1) (duties_later P _)) $$ [Ha] with Hz
  · isplitr; · iapply (inv_at P κ hi); iexact Hctx
    iexact Ha
  rw [wp_ret]; imodintro
  ihave Hp := (Entails.of_eq (show bigSep ((rd P).duties ((c : Thread nD τ), .dma i) 0 \ ∅) (fun b => (rd P).payload ((c : Thread nD τ), .dma i) 0 b)
    = dmaPay P c i from by rw [Finset.sdiff_empty, duties_dma, bigSep_singleton]; rfl)) $$ Hp
  iapply HQ $$ Hz [HO] Hp
  iexists _; iexact HO

/-- A copy to another device's slot, paying its landing. -/
theorem wp_send (i i' : DmaSem sig) (n : Dev nD) (hi : ((c : Thread nD τ), SemLoc.dma i) ∈ barCells ∪ dmaCells)
    (hi' : ((n : Thread nD τ), SemLoc.dma i') ∈ barCells ∪ dmaCells)
    {src : Memref sig .tc .vmem S128x256 .bf16} {dst : Memref sig (Dev.tc n : Thread nD τ).2.kind .vmem S128x256 .bf16} {h₁ : src.view.WordExact} {h₂ : dst.view.WordExact}
    {hsc : dst.view.ref.isScScratch = false} {hT : DmaTarget.Typed .vmem (.dma i') (.remote (Dev.tc n : Thread nD τ) dst (.dma i) hsc)}
    (hN : dst.view.dmaCredit = N) (X : FVec F S128x256 .bf16)
    (hp₁ : owns (c : Thread nD τ) src fullShare X ⊢ dmaPay P c i) (hp₂ : owns (n : Thread nD τ) dst fullShare X ⊢ dmaPay P n i')
    (O : CellTallies nD τ sig Unit) (Q : PUnit → sProp 𝕄) :
    iprop(Ctx P κ ∗ dutyTok (ER F) ((n : Thread nD τ), .dma i') 0 false ∗ reached (ER F) ((n : Thread nD τ), .dma i') 0
        ∗ dutyTok (ER F) ((c : Thread nD τ), .dma i) 0 false ∗ reached (ER F) ((c : Thread nD τ), .dma i) 0
        ∗ owns (c : Thread nD τ) src fullShare X ∗ (∃ Y, owns (n : Thread nD τ) dst fullShare Y)
        ∗ Ow c (O + tallyAt ((n : Thread nD τ), .dma i') () N)
        ∗ (cred (tallyAt ((c : Thread nD τ), .dma i) () N) -∗ Ow c O -∗ Q ⟨⟩))
      ⊢ W c (Prog.lift (.enqueueDma src (.remote (Dev.tc n : Thread nD τ) dst (.dma i) hsc) (.dma i') h₁ h₂ hT)) Q := by
  unfold Ow
  have e (c' : Dev nD) (m : Memref sig .tc .vmem S128x256 .bf16) (X : FVec F S128x256 .bf16) :
    (owns (c' : Thread nD τ) m fullShare X : sProp 𝕄) = iprop(∃ f, ⌜m.view.read (Elt F) f = X⌝ ∗ (m.view.loc (c' : Thread nD τ) ↦[m.view.set]{fullShare} f)) := rfl
  iintro ⟨#Hctx, Ht1, Hr1, Ht2, Hr2, Hs, ⟨%Y, Hd⟩, ⟨%Wt, HO⟩, HQ⟩
  ihave Hs := (Entails.of_eq (e c src X)) $$ Hs
  ihave Hd := (Entails.of_eq (e n dst Y)) $$ Hd
  icases Hs with ⟨%fs, %hfs, Hs⟩
  icases Hd with ⟨%fd, %hfd, Hd⟩
  iapply (Rounds.wp_send_pointsTo 𝒱₀ (ER F) (rd P) (c : Thread nD τ) none
    (c' := (n : Thread nD τ)) (src := src) (dst := dst) (sS := .dma i) (sem := .dma i') (q := fullShare) (fs := fs) (fd := fd)
    (κ₁ := κ ((c : Thread nD τ), .dma i)) (κ₂ := κ ((n : Thread nD τ), .dma i')) (r₁ := 0) (r₂ := 0) (d₁ := false) (d₂ := false)
    (by rw [duties_dma]; exact Finset.mem_singleton_self _) (by rw [duties_dma]; exact Finset.mem_singleton_self _)
    () () N hN rfl rfl O rfl (W := Wt)
    ((owns_intro c src X fs hfs).trans hp₁)
    ((owns_intro n dst X _ (by rw [View.read_write_univ]; exact hfs)).trans hp₂)) $$ [Ht1 Ht2 Hr2 Hd Hr1 Hs HO]
  · isplitr; · iapply (inv_at P κ hi); iexact Hctx
    isplitr; · iapply (inv_at P κ hi'); iexact Hctx
    isplitl [Hs]; · iexact Hs
    isplitl [Hd]; · iexact Hd
    isplitl [HO]; · iexact HO
    isplitl [Ht2]; · iexact Ht2
    isplitl [Hr2]; · iexact Hr2
    isplitl [Ht1]; · iexact Ht1
    iexact Hr1
  iintro ⟨Hc, HO⟩
  rw [wp_ret]; imodintro
  iapply HQ $$ Hc
  iexists _; iexact HO

theorem wp_sendP {t j : ℕ} (ht : t < 15) (hj : j < 4) (n : Dev nD) (hn : n = nb d c) (O : CellTallies nD τ sig Unit) (Q : PUnit → sProp 𝕄) :
    iprop(Ctx P κ ∗ hT c d (4 * t + j) ∗ gift (nb d c) d (4 * t + j)
        ∗ owns (c : Thread nD τ) (slotM (comm d) t j (by omega) hj) fullShare (sumV P d j hj t c)
        ∗ Ow c (O + tallyAt (recvC (nb d c) d (4 * t + j)) () N)
        ∗ (hC c d (4 * t + j) -∗ Ow c O -∗ Q ⟨⟩))
      ⊢ W c (sendP (comm d) (comm_whole d) (sndS d) (rcvS d) t j ht hj n) Q := by
  subst hn
  have hk : 4 * t + j < 60 := by omega
  have hs : sendC c d (4 * t + j) = ((c : Thread nD τ), .dma (semAt (sndS d) t j ht hj)) := by rw [semAt_snd]
  have hr : recvC (nb d c) d (4 * t + j) = (((nb d c : Dev nD) : Thread nD τ), .dma (semAt (rcvS d) t j ht hj)) := by rw [semAt_rcv]
  have hms := send_mem c d hk
  have hmr := recv_mem (nb d c) d hk
  have hpr := pay_recv P (nb d c) d ht hj
  unfold sendP hT hC gift anySlot
  rw [slotF_succ d (by omega) hj]
  rw [hs] at hms ⊢
  rw [hr] at hmr ⊢
  iintro ⟨#Hctx, ⟨Ht1, Ht2, Hr2⟩, ⟨Hd, Hr1⟩, Hs, HO, HQ⟩
  iapply (wp_send P κ c _ _ (nb d c) hms hmr (credit_slotM d (t + 1) j _ hj) (sumV P d j hj t c)
    ((((Entails.of_eq (by rw [slotF_mk d (show t < 16 by omega) hj])).trans (any_intro c d (4 * t + j) (sumV P d j hj t c))).trans (Entails.of_eq (pay_send P c d ht hj).symm)))
    (Entails.of_eq (by rw [nb_back] at hpr; exact hpr.symm)) O Q)
  isplitr; · iexact Hctx
  isplitl [Ht1]; · iexact Ht1
  isplitl [Hr1]; · iexact Hr1
  isplitl [Ht2]; · iexact Ht2
  isplitl [Hr2]; · iexact Hr2
  isplitl [Hs]; · iexact Hs
  isplitl [Hd]; · iexact Hd
  isplitl [HO]; · iexact HO
  iexact HQ

theorem wp_waitRecvP {t j : ℕ} (ht : t < 15) (hj : j < 4) (O : CellTallies nD τ sig Unit) (hO : Above (t + 2) O) (Q : PUnit → sProp 𝕄) :
    iprop(Ctx P κ ∗ hA c d (4 * t + j) ∗ Ow c O
        ∗ (zR c d (4 * t + j) -∗ Ow c O
          -∗ owns (c : Thread nD τ) (slotM (comm d) (t + 1) j (by omega) hj) fullShare (sumV P d j hj t (nb (!d) c)) -∗ Q ⟨⟩))
      ⊢ W c (waitRecvP (comm d) (comm_whole d) (rcvS d) t j ht hj) Q := by
  have hk : 4 * t + j < 60 := by omega
  have hr : recvC c d (4 * t + j) = ((c : Thread nD τ), .dma (semAt (rcvS d) t j ht hj)) := by rw [semAt_rcv]
  have hmr := recv_mem c d hk
  have hl := lv_recv c d hk ()
  have hp := pay_recv P c d ht hj
  unfold waitRecvP hA zR
  rw [hr] at hmr hl ⊢
  rw [← hp]
  iintro ⟨#Hctx, ⟨Ha, Hc⟩, HO, HQ⟩
  iapply (wp_wait P κ c _ hmr (credit_slotM d (t + 1) j _ hj) O hO (by rw [hl]; omega) Q)
  isplitr; · iexact Hctx
  isplitl [Ha]; · iexact Ha
  isplitl [Hc]; · iexact Hc
  isplitl [HO]; · iexact HO
  iexact HQ

theorem wp_waitSendP {t j : ℕ} (ht : t < 15) (hj : j < 4) (O : CellTallies nD τ sig Unit) (hO : Above 0 O) (Q : PUnit → sProp 𝕄) :
    iprop(Ctx P κ ∗ hB c d (4 * t + j) ∗ hC c d (4 * t + j) ∗ Ow c O
        ∗ (zS c d (4 * t + j) -∗ Ow c O -∗ anySlot c d (4 * t + j) -∗ Q ⟨⟩))
      ⊢ W c (waitSendP (comm d) (comm_whole d) (sndS d) t j ht hj) Q := by
  have hk : 4 * t + j < 60 := by omega
  have hs : sendC c d (4 * t + j) = ((c : Thread nD τ), .dma (semAt (sndS d) t j ht hj)) := by rw [semAt_snd]
  have hms := send_mem c d hk
  have hl := lv_send c d hk ()
  have hp := pay_send P c d ht hj
  unfold waitSendP hB hC zS
  rw [hs] at hms hl ⊢
  rw [← hp]
  iintro ⟨#Hctx, Ha, Hc, HO, HQ⟩
  iapply (wp_wait P κ c _ hms (credit_slotM d t j _ hj) O hO hl.le Q)
  isplitr; · iexact Hctx
  isplitl [Ha]; · iexact Ha
  isplitl [Hc]; · iexact Hc
  isplitl [HO]; · iexact HO
  iexact HQ

end Comm

end Cert.Proof

end
-- ==== Proof.Body.lean ====
/-
  The body of the kernel on one device, from what the device holds when it starts to what it holds when it is done.

  `Main c s r w` is both directions after `s` blocks sent, `r` landings taken and `w` copies' ends waited for; each line
  of the body moves these numbers by one. The output is described block by block in the order the body writes them.
-/
module

public import proofs.«01_k».proof.Proof.Steps
public import Idealize.ShloMosaic.Lib.WritesUnit

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The inputs -/

/-- The columns from which a direction works. -/
def colO (d : Bool) : ℕ := if d then 1024 else 0

theorem col_inb (d : Bool) : ∀ a, (![0, colO d] : Fin 2 → ℕ) a + S128x1024.size a ≤ S128x2048.size a := by
  cases d
  · exact inb_S128x2048_S128x1024_0_0
  · exact inb_S128x2048_S128x1024_0_1024

/-- The rows of `x` that hop `t` works on. -/
def xPart (x : Vec F S2048x128 .f32) (c : Dev nD) (d : Bool) (t : Fin 16) : Vec F S128x128 .f32 :=
  fun i => x ((Rect.unit (s := S2048x128) (k0_off1 (metaW c (chK d t))) S128x128.size (k0_off1_inb _ (chk_chunk d c t))).emb i)

/-- The half of the columns of `w` that a direction works on. -/
def wPart (w : Vec F S128x2048 .f32) (d : Bool) : Vec F S128x1024 .f32 :=
  fun i => w ((Rect.unit (s := S128x2048) ![0, colO d] S128x1024.size (col_inb d)).emb i)

/-- Device `c`'s share of the chunk of hop `t`: 128 rows of its `x`, half the columns of its `w`. -/
def shareAt (x : Vec F S2048x128 .f32) (w : Vec F S128x2048 .f32) (c : Dev nD) (d : Bool) (t : Fin 16) : FVec F S128x1024 .f32 :=
  prodV (xPart x c d t) (wPart w d)

/-- The same by the hop's number. -/
def shareV (x : Vec F S2048x128 .f32) (w : Vec F S128x2048 .f32) (c : Dev nD) (d : Bool) (t : ℕ) : FVec F S128x1024 .f32 :=
  shareAt x w c d ⟨t % 16, Nat.mod_lt _ (by decide)⟩

theorem shareV_eq (x : Vec F S2048x128 .f32) (w : Vec F S128x2048 .f32) (c : Dev nD) (d : Bool) {t : ℕ} (ht : t < 16) :
    shareV x w c d t = shareAt x w c d ⟨t, ht⟩ := congrArg (shareAt x w c d) (Fin.ext (Nat.mod_eq_of_lt ht))

/-- The table. -/
def metaX (c : Dev nD) : Vec F S34 .i32 := fun i => metaW c (i 0)

/-- A rectangle of a view lies in it. -/
theorem set_sub {sp : Space} {s : Shape} {e : EltTy} (v : View sig .tc sp s e) (r : Rect s) : (v.slice r).set ⊆ v.set := by
  exact View.set_slice_subset v r

section Inputs

variable (c : Dev nD) (arg0 : Memref sig .tc .smem S34 .i32) (arg1 : Memref sig .tc .vmem S2048x128 .f32) (arg2 : Memref sig .tc .vmem S128x2048 .f32)
  (x : Vec F S2048x128 .f32) (w : Vec F S128x2048 .f32)

/-- The three inputs in the device's hands. -/
def Ins : sProp 𝕄 :=
  iprop(owns (c : Thread nD τ) arg0 fullShare (metaX c) ∗ owns (c : Thread nD τ) arg1 fullShare x ∗ owns (c : Thread nD τ) arg2 fullShare w)

theorem wp_metaP {k : ℕ} (hk : k < 34) (Q : Elt F .i32 → sProp 𝕄) :
    iprop(owns (c : Thread nD τ) arg0 fullShare (metaX c) ∗ (owns (c : Thread nD τ) arg0 fullShare (metaX c) -∗ Q (metaW c ⟨k, hk⟩)))
      ⊢ W c (metaP arg0 k hk) Q := by
  unfold metaP smemLoad owns
  iintro ⟨⟨%f, %hf, Hp⟩, HQ⟩
  iapply (wp_smemLoadElt 𝒱₀ (c : Thread nD τ) none Set.univ (m := arg0) (r := Rect.unit (s := S34) ![k] S1.size (meta_inb hk)) (S := arg0.view.set) (q := fullShare) (f := f) (set_sub arg0.view _)) $$ Hp
  iintro Hp
  rw [wp_ret]; imodintro
  have e : ∀ y, (arg0.access (Rect.unit (s := S34) ![k] S1.size (meta_inb hk)) : View sig .tc _ _ _).read (Elt F) f y = metaW c ⟨k, hk⟩ := by
    intro y
    refine (congrFun hf ((Rect.unit (s := S34) ![k] S1.size (meta_inb hk)).emb y)).trans ?_
    show metaW c _ = _
    congr 1
    apply Fin.ext
    rw [Rect.emb_apply]
    show k + 1 * (y 0).val = k
    have h1 : (y 0).val < 1 := (y 0).isLt
    omega
  rw [e]
  iapply HQ
  iexists f; isplitr
  · ipureintro; exact hf
  · iexact Hp

theorem wp_readP {sp : CoreSpace} {s : Shape} {e : EltTy} (m : Memref sig .tc sp s e) (r : Rect s) (h : m.view.LoadsAt r.toLoadRect) (X : s.Idx → Elt F e)
    (Y : r.shape.Idx → Elt F e)
    (hY : (fun i => X (r.emb i)) = Y) (Q : (r.shape.Idx → Elt F e) → sProp 𝕄) :
    iprop(owns (c : Thread nD τ) m fullShare X ∗ (owns (c : Thread nD τ) m fullShare X -∗ Q Y))
      ⊢ W c (Prog.lift (.load m r.toLoadRect h)) Q := by
  unfold owns
  iintro ⟨⟨%f, %hf, Hp⟩, HQ⟩
  iapply (wp_load_rect 𝒱₀ (c : Thread nD τ) none Set.univ (m := m) (r := r) (S := m.view.set) (f := f) (set_sub m.view r)) $$ Hp
  iintro Hp
  rw [wp_ret]; imodintro
  rw [show (m.access r : View sig .tc _ _ _).read (Elt F) f = Y from by subst hf hY; rfl]
  iapply HQ
  iexists f; isplitr
  · ipureintro; exact hf
  · iexact Hp

theorem wp_shareP (d : Bool) {t k o : ℕ} (ht : t < 16) (hk : k < 34) (ho) (ek : k = (chK d ⟨t, ht⟩).val) (eo : o = colO d) (Q : FVec F S128x1024 .f32 → sProp 𝕄) :
    iprop(Ins c arg0 arg1 arg2 x w ∗ (Ins c arg0 arg1 arg2 x w -∗ Q (shareV x w c d t))) ⊢ W c (shareP arg0 arg1 arg2 k hk o ho) Q := by
  subst ek eo
  unfold shareP Ins
  iintro ⟨⟨H0, H1, H2⟩, HQ⟩
  rw [W_bind]
  iapply (wp_metaP c arg0 hk)
  isplitl [H0]; · iexact H0
  iintro H0
  rw [W_bind]
  iapply (wp_assume 𝒱₀ (c : Thread nD τ) none Set.univ (chk_chunk d c ⟨t, ht⟩))
  rw [wp_ret]; imodintro
  rw [W_bind]
  iapply (wp_readP c arg1 (Rect.unit (s := S2048x128) (k0_off1 (metaW c (chK d ⟨t, ht⟩))) S128x128.size (k0_off1_inb _ (chk_chunk d c _))) _ x (xPart x c d ⟨t, ht⟩) rfl)
  isplitl [H1]; · iexact H1
  iintro H1
  rw [W_bind]
  iapply (wp_readP c arg2 (Rect.unit (s := S128x2048) ![0, colO d] S128x1024.size (col_inb d)) _ w (wPart w d) rfl)
  isplitl [H2]; · iexact H2
  iintro H2
  iapply (W_pure c)
  rw [shareV_eq x w c d ht, shareAt]
  iapply HQ
  isplitl [H0]; · iexact H0
  isplitl [H1]; · iexact H1
  iexact H2

/-- The two shares of hop `t`. -/
theorem wp_sharesP {t : ℕ} (ht : t < 16) (Q : FVec F S128x1024 .f32 × FVec F S128x1024 .f32 → sProp 𝕄) :
    iprop(Ins c arg0 arg1 arg2 x w ∗ (Ins c arg0 arg1 arg2 x w -∗ Q (shareV x w c false t, shareV x w c true t)))
      ⊢ W c (sharesP arg0 arg1 arg2 t ht) Q := by
  unfold sharesP
  iintro ⟨HI, HQ⟩
  rw [W_bind]
  iapply (wp_shareP c arg0 arg1 arg2 x w false ht _ _ rfl rfl)
  isplitl [HI]; · iexact HI
  iintro HI
  rw [W_bind]
  iapply (wp_shareP c arg0 arg1 arg2 x w true ht _ _ rfl rfl)
  isplitl [HI]; · iexact HI
  iintro HI
  iapply (W_pure c)
  iapply HQ; iexact HI

end Inputs

/-! ## The output -/

section Output

variable (P : Dev nD → Bool → ℕ → FVec F S128x1024 .f32) (c : Dev nD) (out : Memref sig .tc .vmem S128x2048 .f32)

/-- Column block `j` of the half a direction owns. -/
def outV (d : Bool) (j : ℕ) (hj : j < 4) : FVec F S128x256 .f32 := geluV (plusV (P c d 15) j hj (sumV P d j hj 14 (nb (!d) c)))

/-- An element's place in its block. -/
def inBlk (i : S128x2048.Idx) : S128x256.Idx := fun a => match a with
  | ⟨0, _⟩ => ⟨(i 0).val, (i 0).isLt⟩
  | ⟨1, _⟩ => ⟨(i 1).val % 256, Nat.mod_lt _ (by decide)⟩

/-- The whole output. -/
def outFun : Vec F S128x2048 .f32 := fun i =>
  outV P c (decide (1024 ≤ (i 1).val)) ((i 1).val % 1024 / 256) (by have := Nat.mod_lt (i 1).val (show 0 < 1024 by decide); omega) (inBlk i)

/-- The block an element lies in, in the order of writing. -/
def rank (i : S128x2048.Idx) : ℕ := 2 * ((i 1).val % 1024 / 256) + (i 1).val / 1024

/-- The first `n` blocks are written. -/
def Outs (n : ℕ) : sProp 𝕄 :=
  iprop(∃ X, ⌜∀ i, rank i < n → X i = outFun P c i⌝ ∗ owns (c : Thread nD τ) out fullShare X)

theorem outFun_at (d : Bool) {j : ℕ} (hj : j < 4) (i : S128x2048.Idx) (h : ∀ a, (![0, colO d + 256 * j] : Fin 2 → ℕ) a ≤ (i a).val
      ∧ (i a).val < (![0, colO d + 256 * j] : Fin 2 → ℕ) a + S128x256.size a) :
    outV P c d j hj (Rect.unitLocal (s := S128x2048) (size := S128x256.size) i h) = outFun P c i := by
  have h1 : colO d + 256 * j ≤ (i 1).val ∧ (i 1).val < colO d + 256 * j + 256 := h 1
  have ed : d = decide (1024 ≤ (i 1).val) := by
    cases d <;> simp only [colO, if_true, if_false, Bool.false_eq_true] at h1 <;> symm <;> simp <;> omega
  have ej : j = (i 1).val % 1024 / 256 := by
    cases d <;> simp only [colO, if_true, if_false, Bool.false_eq_true] at h1 <;> omega
  have hx (d' : Bool) (j' : ℕ) (hj' : j' < 4) (y y' : S128x256.Idx) (e : d = d') (e' : j = j') (ey : y = y') : outV P c d j hj y = outV P c d' j' hj' y' := by
    subst e e' ey; rfl
  refine hx _ _ _ _ _ ed ej (funext fun a => ?_)
  match a with
  | ⟨0, _⟩ => exact Fin.ext (Nat.sub_zero _)
  | ⟨1, _⟩ =>
    refine Fin.ext ?_
    show (i 1).val - (colO d + 256 * j) = (i 1).val % 256
    cases d <;> simp only [colO, if_true, if_false, Bool.false_eq_true] at h1 ⊢ <;> omega

theorem out_write (d : Bool) {j : ℕ} (hj : j < 4) (ho : colO d ≤ 1024) (f : out.view.ty.Contents (Elt F))
    (hX : ∀ i, rank i < 2 * j + d.toNat → out.view.read (Elt F) f i = outFun P c i) (i : S128x2048.Idx) (hi : rank i < 2 * j + d.toNat + 1) :
    out.view.read (Elt F) (out.view.writes (Elt F) f
      [⟨Rect.unit (s := S128x2048) ![0, colO d + 256 * j] S128x256.size (out_inb ho hj), outV P c d j hj⟩]) i = outFun P c i := by
  rw [View.read_writes_cons_unit out.view f (out_inb ho hj) (outV P c d j hj) [] i rfl]
  split
  · rename_i h; exact outFun_at P c d hj i h
  · rename_i h
    refine hX i (lt_of_le_of_ne (Nat.lt_succ_iff.mp hi) fun e => h ?_)
    have hi1 : (i 1).val < 2048 := (i 1).isLt
    have hi0 : (i 0).val < 128 := (i 0).isLt
    unfold rank at e
    intro a
    match a with
    | ⟨0, _⟩ => exact ⟨Nat.zero_le _, by show (i 0).val < 0 + 128; omega⟩
    | ⟨1, _⟩ =>
      show colO d + 256 * j ≤ (i 1).val ∧ (i 1).val < colO d + 256 * j + 256
      cases d <;> simp only [colO, if_true, if_false, Bool.false_eq_true, Bool.toNat_true, Bool.toNat_false] at e ⊢ <;> omega

theorem wp_storeOut (d : Bool) {j : ℕ} (hj : j < 4) (o : ℕ) (ho : o ≤ 1024) (eo : o = colO d)
    (hx) (hm) (v : FVec F S128x256 .f32) (hv : v = outV P c d j hj) (Q : PUnit → sProp 𝕄) :
    iprop(Outs P c out (2 * j + d.toNat) ∗ (Outs P c out (2 * j + d.toNat + 1) -∗ Q ⟨⟩))
      ⊢ W c (Prog.lift (.store out (Rect.unit (s := S128x2048) ![0, o + 256 * j] S128x256.size (out_inb ho hj)) v Finset.univ hx hm)) Q := by
  subst eo hv
  unfold Outs owns
  iintro ⟨⟨%X, %hX, %f, %hf, Hp⟩, HQ⟩
  subst hf
  iapply (wp_store 𝒱₀ (c : Thread nD τ) none Set.univ (m := out) (r := Rect.unit (s := S128x2048) ![0, colO d + 256 * j] S128x256.size (out_inb ho hj))
    (Mk := Finset.univ) (S := out.view.set) (f := f) (set_sub out.view _)) $$ Hp
  iintro Hp
  rw [wp_ret]; imodintro
  iapply HQ
  iexists (out.view.read (Elt F) (out.view.writes (Elt F) f
      [⟨Rect.unit (s := S128x2048) ![0, colO d + 256 * j] S128x256.size (out_inb ho hj), outV P c d j hj⟩]))
  isplitr
  · ipureintro; exact out_write P c out d hj ho f hX
  · iexists _; isplitr
    · ipureintro; rfl
    · iexact Hp

theorem Outs_start (X : Vec F S128x2048 .f32) : (owns (c : Thread nD τ) out fullShare X : sProp 𝕄) ⊢ Outs P c out 0 := by
  unfold Outs
  iintro H; iexists X; isplitr
  · ipureintro; exact fun i h => absurd h (Nat.not_lt_zero _)
  · iexact H

theorem Outs_done : Outs P c out 8 ⊢ (owns (c : Thread nD τ) out fullShare (outFun P c) : sProp 𝕄) := by
  unfold Outs
  iintro ⟨%X, %hX, H⟩
  have e : X = outFun P c := funext fun i => hX i (by
    have hi1 : (i 1).val < 2048 := (i 1).isLt
    unfold rank; omega)
  subst e
  iexact H

end Output

end Cert.Proof

end
-- ==== Proof.Hops.lean ====
/-
  The hops of the ring, both directions side by side, and the whole body.

  `Main c s r w` is both directions after `s` blocks sent, `r` landings taken and `w` copies' ends waited for, with the
  landings still owed; each line of the body moves these numbers by one.
-/
module

public import proofs.«01_k».proof.Proof.Body

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Dir

variable (P : Dev nD → Bool → ℕ → FVec F S128x1024 .f32) (κ : GSem nD τ sig → ℕ) (c : Dev nD) (d : Bool)

/-- The first slots not yet written; the last slots, done with. -/
def Ini (j : ℕ) : sProp 𝕄 := bigSep (Finset.Ico j 4) (anySlot c d)
def Fin' (j : ℕ) : sProp 𝕄 := bigSep (Finset.Ico 60 (60 + j)) (anySlot c d)

/-- The device's own share into the first slot. -/
theorem wp_firstP {j : ℕ} (hj : j < 4) (Q : PUnit → sProp 𝕄) :
    iprop(Ini c d j ∗ (Ini c d (j + 1) -∗ owns (c : Thread nD τ) (slotM (comm d) 0 j (by omega) hj) fullShare (sumV P d j hj 0 c) -∗ Q ⟨⟩))
      ⊢ W c (firstP (comm d) (comm_whole d) j hj (P c d 0)) Q := by
  unfold firstP Ini
  rw [bigSep_Ico_succ_bot (a := j) (b := 4) hj]
  have es : slotF d j = slotM (comm d) 0 j (by omega) hj := slotM_congr _ _ _ (by omega) (by omega)
  iintro ⟨⟨Hs, Hi⟩, HQ⟩
  ihave Hs := (Entails.of_eq (show anySlot (F := F) c d j = iprop(∃ X, owns (c : Thread nD τ) (slotM (comm d) 0 j (by omega) hj) fullShare X) from by
    unfold anySlot; rw [es])) $$ Hs
  icases Hs with ⟨%X, Hs⟩
  rw [W_bind]
  iapply (wp_get c (comm d) 0 j _ hj X)
  isplitl [Hs]; · iexact Hs
  iintro %v %hv Hs
  iapply (wp_put c (comm d) (comm_whole d) 0 j (by omega) hj X)
  isplitl [Hs]; · iexact Hs
  iintro Hs
  iapply HQ $$ Hi
  iexact Hs

/-- A hop in one direction. -/
theorem wp_hopP {t j w : ℕ} (ht : t < 14) (hj : j < 4) (hw : w ≤ 4 * (t + 1) + j) (n : Dev nD) (hn : n = nb d c) (O : CellTallies nD τ sig Unit)
    (hO : Above (t + 2) (O + tallyAt (recvC (nb d c) d (4 * (t + 1) + j)) () N)) (Q : PUnit → sProp 𝕄) :
    iprop(Ctx P κ ∗ St c d (4 * (t + 1) + j) (4 * t + j) w ∗ Ow c (O + tallyAt (recvC (nb d c) d (4 * (t + 1) + j)) () N)
        ∗ (St c d (4 * (t + 1) + j + 1) (4 * t + j + 1) w -∗ Ow c O -∗ Q ⟨⟩))
      ⊢ W c (hopP (comm d) (comm_whole d) (sndS d) (rcvS d) t j ht hj n (P c d (t + 1))) Q := by
  unfold hopP
  iintro ⟨#Hctx, HS, HO, HQ⟩
  ihave HS := (St_recv c d (s := 4 * (t + 1) + j) (r := 4 * t + j) (w := w) (by omega)) $$ HS
  icases HS with ⟨HA, HS⟩
  rw [W_bind]
  iapply (wp_waitRecvP P κ c d _ hj _ hO)
  isplitr; · iexact Hctx
  isplitl [HA]; · iexact HA
  isplitl [HO]; · iexact HO
  iintro Hz HO Hs
  ihave HS := HS $$ Hz
  rw [W_bind]
  iapply (wp_get c (comm d) (t + 1) j _ hj _)
  isplitl [Hs]; · iexact Hs
  iintro %v %hv Hs
  rw [W_bind]
  iapply (wp_get c (comm d) (t + 1) j _ hj _)
  isplitl [Hs]; · iexact Hs
  iintro %v' %hv' Hs
  rw [W_bind]
  iapply (wp_put c (comm d) (comm_whole d) (t + 1) j (by omega) hj _)
  isplitl [Hs]; · iexact Hs
  iintro Hs
  ihave HS := (St_send c d (s := 4 * (t + 1) + j) (r := 4 * t + j + 1) (w := w) (by omega) hw) $$ HS
  icases HS with ⟨HT, HG, HS⟩
  have ev : (truncf .bf16 (accV (P c d (t + 1)) j hj v) bitsLt_bf16_f32 : FVec F S128x256 .bf16) = sumV P d j hj (t + 1) c := by
    rw [sumV, ← hv]; rfl
  rw [ev]
  iapply (wp_sendP P κ c d (t := t + 1) _ hj n hn O)
  isplitr; · iexact Hctx
  isplitl [HT]; · iexact HT
  isplitl [HG]; · iexact HG
  isplitl [Hs]; · iexact Hs
  isplitl [HO]; · iexact HO
  iintro HC HO
  ihave HS := HS $$ HC
  iapply HQ $$ HS
  iexact HO

/-- A copy's end in one direction. -/
theorem wp_drain1 {t j s r : ℕ} (ht : t < 15) (hj : j < 4) (hs : s ≤ 60) (hw : 4 * t + j < s) (O : CellTallies nD τ sig Unit) (hO : Above 0 O)
    (Q : PUnit → sProp 𝕄) :
    iprop(Ctx P κ ∗ St c d s r (4 * t + j) ∗ Ow c O ∗ (St c d s r (4 * t + j + 1) -∗ Ow c O -∗ Q ⟨⟩))
      ⊢ W c (waitSendP (comm d) (comm_whole d) (sndS d) t j ht hj) Q := by
  iintro ⟨#Hctx, HS, HO, HQ⟩
  ihave HS := (St_drain c d (r := r) hs hw) $$ HS
  icases HS with ⟨HB, HC, HS⟩
  iapply (wp_waitSendP P κ c d ht hj O hO)
  isplitr; · iexact Hctx
  isplitl [HB]; · iexact HB
  isplitl [HC]; · iexact HC
  isplitl [HO]; · iexact HO
  iintro Hz HO Hs
  ihave HS := HS $$ Hz Hs
  iapply HQ $$ HS
  iexact HO

/-- The last hop in one direction: the output's block. -/
theorem wp_outP {j s w : ℕ} (hj : j < 4) (out : Memref sig .tc .vmem S128x2048 .f32) (o : ℕ) (ho : o ≤ 1024) (eo : o = colO d)
    (O : CellTallies nD τ sig Unit) (hO : Above (14 + 2) O) (Q : PUnit → sProp 𝕄) :
    iprop(Ctx P κ ∗ St c d s (56 + j) w ∗ Fin' c d j ∗ Outs P c out (2 * j + d.toNat) ∗ Ow c O
        ∗ (St c d s (56 + j + 1) w -∗ Fin' c d (j + 1) -∗ Outs P c out (2 * j + d.toNat + 1) -∗ Ow c O -∗ Q ⟨⟩))
      ⊢ W c (outP (comm d) (comm_whole d) (rcvS d) out o j ho hj (P c d 15)) Q := by
  unfold outP Fin'
  iintro ⟨#Hctx, HS, HF, Hout, HO, HQ⟩
  ihave HS := (St_recv c d (s := s) (r := 56 + j) (w := w) (by omega)) $$ HS
  icases HS with ⟨HA, HS⟩
  rw [W_bind]
  iapply (wp_waitRecvP P κ c d (t := 14) _ hj _ hO)
  isplitr; · iexact Hctx
  isplitl [HA]; · iexact HA
  isplitl [HO]; · iexact HO
  iintro Hz HO Hs
  ihave HS := HS $$ Hz
  rw [W_bind]
  iapply (wp_get c (comm d) 15 j _ hj _)
  isplitl [Hs]; · iexact Hs
  iintro %v %hv Hs
  ihave Ho := (Entails.of_eq (Outs.eq_1 P c out _)) $$ Hout
  icases Ho with ⟨%X, %hX, Ho⟩
  rw [W_bind]
  iapply (wp_readP c out (Rect.unit (s := S128x2048) ![0, o + 256 * j] S128x256.size (out_inb ho hj)) _ X _ rfl)
  isplitl [Ho]; · iexact Ho
  iintro Ho
  have ev : (geluV (accV (P c d 15) j hj v) : FVec F S128x256 .f32) = outV P c d j hj := by
    rw [outV, ← hv]; rfl
  iapply (wp_storeOut P c out d hj o ho eo _ _ _ ev)
  isplitl [Ho]
  · unfold Outs
    iexists X; isplitr
    · ipureintro; exact hX
    · iexact Ho
  iintro Ho
  have ef : slotM (comm d) 15 j (by omega) hj = slotF d (60 + j) := slotM_congr _ _ _ (by omega) (by omega)
  iapply HQ $$ HS [HF Hs] Ho
  · rw [show 60 + (j + 1) = 60 + j + 1 from rfl, bigSep_Ico_succ_top (a := 60) (b := 60 + j) (by omega)]
    isplitl [Hs]
    · unfold anySlot; rw [← ef]; iexists _; iexact Hs
    · iexact HF
  iexact HO

end Dir

/-! ## Both directions -/

section Both

/-- The landings owed in both directions. -/
def Due (c : Dev nD) (s s' : ℕ) : CellTallies nD τ sig Unit := dueD c false s + dueD c true s'

theorem Due_popR (c : Dev nD) {s s' : ℕ} (hs : s < 60) : Due c s s' = Due c (s + 1) s' + tallyAt (recvC (nb false c) false s) () N := by
  unfold Due; rw [dueD_pop c false hs, add_right_comm]

theorem Due_popL (c : Dev nD) {s s' : ℕ} (hs : s' < 60) : Due c s s' = Due c s (s' + 1) + tallyAt (recvC (nb true c) true s') () N := by
  unfold Due; rw [dueD_pop c true hs, add_assoc]

theorem Due_above (c : Dev nD) {b s s' : ℕ} (h : b < s / 4 + 2) (h' : b < s' / 4 + 2) : Above b (Due c s s') :=
  (Above.due c false s h).add (Above.due c true s' h')

theorem Due_done (c : Dev nD) : Due c 60 60 = 0 := by unfold Due; rw [dueD_done, dueD_done, add_zero]

variable (x : Dev nD → Vec F S2048x128 .f32) (w : Dev nD → Vec F S128x2048 .f32) (κ : GSem nD τ sig → ℕ) (c : Dev nD)

/-- Every device's shares. -/
def shares : Dev nD → Bool → ℕ → FVec F S128x1024 .f32 := fun c d t => shareV (x c) (w c) c d t

/-- Both directions at the same point. -/
def Main (s r w : ℕ) : sProp 𝕄 := iprop(St c false s r w ∗ St c true s r w ∗ Ow c (Due c s s))

/-- A step that moves a state on by one, four times. -/
theorem wp_four (K : sProp 𝕄) [BI.Persistent K] (A : ℕ → sProp 𝕄) (f : (j : ℕ) → j < 4 → Pr F PUnit)
    (h : ∀ (j : ℕ) (hj : j < 4) (Q : PUnit → sProp 𝕄), iprop(K ∗ A j ∗ (A (j + 1) -∗ Q ⟨⟩)) ⊢ W c (f j hj) Q) (Q : PUnit → sProp 𝕄) :
    iprop(K ∗ A 0 ∗ (A 4 -∗ Q ⟨⟩)) ⊢ W c (four f) Q := by
  unfold four
  iintro ⟨#HK, HA, HQ⟩
  rw [W_bind]
  iapply (h 0 _)
  isplitr; · iexact HK
  isplitl [HA]; · iexact HA
  iintro HA
  rw [W_bind]
  iapply (h 1 _)
  isplitr; · iexact HK
  isplitl [HA]; · iexact HA
  iintro HA
  rw [W_bind]
  iapply (h 2 _)
  isplitr; · iexact HK
  isplitl [HA]; · iexact HA
  iintro HA
  iapply (h 3 _)
  isplitr; · iexact HK
  isplitl [HA]; · iexact HA
  iexact HQ

variable (P : Dev nD → Bool → ℕ → FVec F S128x1024 .f32)

theorem wp_startP (dr dl : Dev nD) (hr : dr = nb false c) (hl : dl = nb true c) (j : ℕ) (hj : j < 4) (Q : PUnit → sProp 𝕄) :
    iprop(Ctx P κ ∗ (Main c j 0 0 ∗ Ini c false j ∗ Ini c true j)
        ∗ ((Main c (j + 1) 0 0 ∗ Ini c false (j + 1) ∗ Ini c true (j + 1)) -∗ Q ⟨⟩))
      ⊢ W c (startP (comm false) (comm_whole false) (comm true) (comm_whole true) (sndS false) (rcvS false) (sndS true) (rcvS true)
          dr dl (P c false 0) (P c true 0) j hj) Q := by
  unfold startP Main
  rw [Due_popR c (s := j) (s' := j) (by omega)]
  iintro ⟨#Hctx, ⟨⟨HA, HB, HO⟩, HIA, HIB⟩, HQ⟩
  rw [W_bind]
  iapply (wp_firstP P c false hj)
  isplitl [HIA]; · iexact HIA
  iintro HIA HsA
  rw [W_bind]
  iapply (wp_firstP P c true hj)
  isplitl [HIB]; · iexact HIB
  iintro HIB HsB
  ihave HA := (St_send c false (s := j) (r := 0) (w := 0) (by omega) (by omega)) $$ HA
  icases HA with ⟨HT, HG, HA⟩
  have e0 : 4 * 0 + j = j := by omega
  rw [W_bind]
  have sA := wp_sendP P κ c false (t := 0) (by omega) hj dr hr (Due c (j + 1) j)
  have sB := wp_sendP P κ c true (t := 0) (by omega) hj dl hl (Due c (j + 1) (j + 1))
  rw [e0] at sA sB
  iapply (sA _)
  isplitr; · iexact Hctx
  isplitl [HT]; · iexact HT
  isplitl [HG]; · iexact HG
  isplitl [HsA]; · iexact HsA
  isplitl [HO]; · iexact HO
  iintro HC HO
  ihave HA := HA $$ HC
  ihave HB := (St_send c true (s := j) (r := 0) (w := 0) (by omega) (by omega)) $$ HB
  icases HB with ⟨HT, HG, HB⟩
  iapply (sB _)
  isplitr; · iexact Hctx
  isplitl [HT]; · iexact HT
  isplitl [HG]; · iexact HG
  isplitl [HsB]; · iexact HsB
  isplitl [HO]; · rw [← Due_popL c (s := j + 1) (s' := j) (by omega)]; iexact HO
  iintro HC HO
  ihave HB := HB $$ HC
  iapply HQ
  isplitl [HA HB HO]
  · isplitl [HA]; · iexact HA
    isplitl [HB]; · iexact HB
    iexact HO
  isplitl [HIA]; · iexact HIA
  iexact HIB

theorem wp_hopsP {t : ℕ} (ht : t < 14) (dr dl : Dev nD) (hr : dr = nb false c) (hl : dl = nb true c) (j : ℕ) (hj : j < 4) (Q : PUnit → sProp 𝕄) :
    iprop(Ctx P κ ∗ Main c (4 * (t + 1) + j) (4 * t + j) (4 * t) ∗ (Main c (4 * (t + 1) + (j + 1)) (4 * t + (j + 1)) (4 * t) -∗ Q ⟨⟩))
      ⊢ W c (hopsP (comm false) (comm_whole false) (comm true) (comm_whole true) (sndS false) (rcvS false) (sndS true) (rcvS true)
          t ht dr dl (P c false (t + 1)) (P c true (t + 1)) j hj) Q := by
  unfold hopsP Main
  have pA := Due_popR c (s := 4 * (t + 1) + j) (s' := 4 * (t + 1) + j) (by omega)
  have pB := Due_popL c (s := 4 * (t + 1) + j + 1) (s' := 4 * (t + 1) + j) (by omega)
  iintro ⟨#Hctx, ⟨HA, HB, HO⟩, HQ⟩
  rw [W_bind]
  iapply (wp_hopP P κ c false ht hj (w := 4 * t) (by omega) dr hr (Due c (4 * (t + 1) + j + 1) (4 * (t + 1) + j))
    (by rw [← pA]; exact Due_above c (by omega) (by omega)))
  isplitr; · iexact Hctx
  isplitl [HA]; · iexact HA
  isplitl [HO]; · rw [← pA]; iexact HO
  iintro HA HO
  iapply (wp_hopP P κ c true ht hj (w := 4 * t) (by omega) dl hl (Due c (4 * (t + 1) + j + 1) (4 * (t + 1) + j + 1))
    (by rw [← pB]; exact Due_above c (by omega) (by omega)))
  isplitr; · iexact Hctx
  isplitl [HB]; · iexact HB
  isplitl [HO]; · rw [← pB]; iexact HO
  iintro HB HO
  iapply HQ
  isplitl [HA]; · iexact HA
  isplitl [HB]; · iexact HB
  iexact HO

theorem wp_drainP {t s r : ℕ} (ht : t < 15) (hs : s ≤ 60) (hs' : 4 * (t + 1) ≤ s) (j : ℕ) (hj : j < 4) (Q : PUnit → sProp 𝕄) :
    iprop(Ctx P κ ∗ Main c s r (4 * t + j) ∗ (Main c s r (4 * t + (j + 1)) -∗ Q ⟨⟩))
      ⊢ W c (drainP (comm false) (comm_whole false) (comm true) (comm_whole true) (sndS false) (sndS true) t ht j hj) Q := by
  unfold drainP Main
  iintro ⟨#Hctx, ⟨HA, HB, HO⟩, HQ⟩
  rw [W_bind]
  iapply (wp_drain1 P κ c false ht hj hs (by omega) (Due c s s) (Due_above c (by omega) (by omega)))
  isplitr; · iexact Hctx
  isplitl [HA]; · iexact HA
  isplitl [HO]; · iexact HO
  iintro HA HO
  iapply (wp_drain1 P κ c true ht hj hs (by omega) (Due c s s) (Due_above c (by omega) (by omega)))
  isplitr; · iexact Hctx
  isplitl [HB]; · iexact HB
  isplitl [HO]; · iexact HO
  iintro HB HO
  iapply HQ
  isplitl [HA]; · iexact HA
  isplitl [HB]; · iexact HB
  iexact HO

theorem wp_outsP (out : Memref sig .tc .vmem S128x2048 .f32) (j : ℕ) (hj : j < 4) (Q : PUnit → sProp 𝕄) :
    iprop(Ctx P κ ∗ (Main c 60 (56 + j) 56 ∗ Fin' c false j ∗ Fin' c true j ∗ Outs P c out (2 * j))
        ∗ ((Main c 60 (56 + (j + 1)) 56 ∗ Fin' c false (j + 1) ∗ Fin' c true (j + 1) ∗ Outs P c out (2 * (j + 1))) -∗ Q ⟨⟩))
      ⊢ W c (outsP out (comm false) (comm_whole false) (comm true) (comm_whole true) (rcvS false) (rcvS true) (P c false 15) (P c true 15) j hj) Q := by
  unfold outsP Main
  iintro ⟨#Hctx, ⟨⟨HA, HB, HO⟩, HFA, HFB, Hout⟩, HQ⟩
  rw [W_bind]
  iapply (wp_outP P κ c false (s := 60) (w := 56) hj out 0 _ rfl (Due c 60 60) (by rw [Due_done]; exact Above.zero _))
  isplitr; · iexact Hctx
  isplitl [HA]; · iexact HA
  isplitl [HFA]; · iexact HFA
  isplitl [Hout]; · iexact Hout
  isplitl [HO]; · iexact HO
  iintro HA HFA Hout HO
  iapply (wp_outP P κ c true (s := 60) (w := 56) hj out 1024 _ rfl (Due c 60 60) (by rw [Due_done]; exact Above.zero _))
  isplitr; · iexact Hctx
  isplitl [HB]; · iexact HB
  isplitl [HFB]; · iexact HFB
  isplitl [Hout]; · iexact Hout
  isplitl [HO]; · iexact HO
  iintro HB HFB Hout HO
  iapply HQ
  isplitl [HA HB HO]
  · isplitl [HA]; · iexact HA
    isplitl [HB]; · iexact HB
    iexact HO
  isplitl [HFA]; · iexact HFA
  isplitl [HFB]; · iexact HFB
  iexact Hout

/-! ## The chain of hops -/

variable (arg0 : Memref sig .tc .smem S34 .i32) (arg1 : Memref sig .tc .vmem S2048x128 .f32) (arg2 out : Memref sig .tc .vmem S128x2048 .f32)

/-- What the ring leaves: every block sent and waited for, the last slots, the whole output. -/
def Done : sProp 𝕄 :=
  iprop(Main c 60 60 60 ∗ Fin' c false 4 ∗ Fin' c true 4 ∗ Ins c arg0 arg1 arg2 (x c) (w c)
    ∗ owns (c : Thread nD τ) out fullShare (outFun (shares x w) c))

theorem wp_hopsFrom (dr dl : Dev nD) (hr : dr = nb false c) (hl : dl = nb true c) (n t : ℕ) (h : n + t = 14) (Q : PUnit → sProp 𝕄) :
    iprop(Ctx (shares x w) κ ∗ Main c (4 * (t + 1)) (4 * t) (4 * t) ∗ Fin' c false 0 ∗ Fin' c true 0
        ∗ Ins c arg0 arg1 arg2 (x c) (w c) ∗ Outs (shares x w) c out 0 ∗ (Done x w c arg0 arg1 arg2 out -∗ Q ⟨⟩))
      ⊢ W c (hopsFrom arg0 arg1 arg2 out (comm false) (comm_whole false) (comm true) (comm_whole true) (sndS false) (rcvS false) (sndS true) (rcvS true)
          dr dl n t h (shares x w c false (t + 1)) (shares x w c true (t + 1))) Q := by
  induction n generalizing t with
  | zero =>
    obtain rfl : t = 14 := by omega
    unfold hopsFrom Done
    iintro ⟨#Hctx, HM, HFA, HFB, HI, Hout, HQ⟩
    rw [W_bind]
    iapply (wp_four c (Ctx (shares x w) κ)
      (fun j => iprop(Main c 60 (56 + j) 56 ∗ Fin' c false j ∗ Fin' c true j ∗ Outs (shares x w) c out (2 * j)))
      _ (wp_outsP κ c (shares x w) out))
    isplitr; · iexact Hctx
    isplitl [HM HFA HFB Hout]
    · isplitl [HM]; · iexact HM
      isplitl [HFA]; · iexact HFA
      isplitl [HFB]; · iexact HFB
      iexact Hout
    iintro ⟨HM, HFA, HFB, Hout⟩
    iapply (wp_four c (Ctx (shares x w) κ) (fun j => Main c 60 60 (56 + j)) _
      (wp_drainP κ c (shares x w) (t := 14) (s := 60) (r := 60) _ (by omega) (by omega)))
    isplitr; · iexact Hctx
    isplitl [HM]; · iexact HM
    iintro HM
    iapply HQ
    isplitl [HM]; · iexact HM
    isplitl [HFA]; · iexact HFA
    isplitl [HFB]; · iexact HFB
    isplitl [HI]; · iexact HI
    iapply (Outs_done (shares x w) c out); iexact Hout
  | succ n ih =>
    unfold hopsFrom
    iintro ⟨#Hctx, HM, HFA, HFB, HI, Hout, HQ⟩
    rw [W_bind]
    iapply (wp_four c (Ctx (shares x w) κ) (fun j => Main c (4 * (t + 1) + j) (4 * t + j) (4 * t)) _
      (wp_hopsP κ c (shares x w) (t := t) _ dr dl hr hl))
    isplitr; · iexact Hctx
    isplitl [HM]; · iexact HM
    iintro HM
    rw [W_bind]
    iapply (wp_four c (Ctx (shares x w) κ) (fun j => Main c (4 * (t + 1) + 4) (4 * t + 4) (4 * t + j)) _
      (wp_drainP κ c (shares x w) (t := t) (s := 4 * (t + 1) + 4) (r := 4 * t + 4) _ (by omega) (by omega)))
    isplitr; · iexact Hctx
    isplitl [HM]; · iexact HM
    iintro HM
    rw [W_bind]
    iapply (wp_sharesP c arg0 arg1 arg2 (x c) (w c) (t := t + 2) _)
    isplitl [HI]; · iexact HI
    iintro HI
    iapply (ih (t + 1) (by omega))
    isplitr; · iexact Hctx
    isplitl [HM]; · iexact HM
    isplitl [HFA]; · iexact HFA
    isplitl [HFB]; · iexact HFB
    isplitl [HI]; · iexact HI
    isplitl [Hout]; · iexact Hout
    iexact HQ

/-! ## The body -/

/-- The greeting's part: the own barrier cell, and the duties of both neighbours'. -/
def Bar : sProp 𝕄 :=
  iprop(atPos (ER F) (barC c) 0 ∅ 0 ∗ cred (tallyAt (barC c) () 2)
    ∗ (dutyTok (ER F) (barC (nb true c)) 0 false ∗ reached (ER F) (barC (nb true c)) 0)
    ∗ (dutyTok (ER F) (barC (nb false c)) 0 true ∗ reached (ER F) (barC (nb false c)) 0))

/-- What a device owes at launch: all landings and the two signals. -/
def O₀ : CellTallies nD τ sig Unit := Due c 0 0 + tallyAt (barC (nb false c)) () 1 + tallyAt (barC (nb true c)) () 1

/-- A direction at the start, without the neighbour's gifts. -/
def Dir (d : Bool) : sProp 𝕄 :=
  iprop(bigSep (Finset.Ico 0 60) (hT (F := F) c d) ∗ bigSep (Finset.Ico 0 60) (hA (F := F) c d) ∗ bigSep (Finset.Ico 0 60) (hB (F := F) c d))

theorem Dir_start (d : Bool) : iprop(Dir (F := F) c d ∗ gifts (nb d c) d) ⊢ St c d 0 0 0 := by
  unfold Dir St gifts
  rw [Finset.Ico_self, bigSep_empty, bigSep_empty, bigSep_empty, bigSep_empty]
  iintro ⟨⟨H1, H2, H3⟩, H4⟩
  isplitl [H1]; · iexact H1
  isplitl [H4]; · iexact H4
  isplitl [H2]; · iexact H2
  isplitl [H3]; · iexact H3
  isplitr; · iempintro
  isplitr; · iempintro
  isplitr <;> iempintro

/-- A signal to a neighbour's barrier cell: it takes what the neighbour may write. -/
theorem wp_greet (d : Bool) (n : Dev nD) (hn : n = nb (!d) c) (O : CellTallies nD τ sig Unit) (Q : PUnit → sProp 𝕄) :
    iprop(Ctx P κ ∗ (dutyTok (ER F) (barC (nb (!d) c)) 0 d ∗ reached (ER F) (barC (nb (!d) c)) 0) ∗ gifts c d
        ∗ Ow c (O + tallyAt (barC (nb (!d) c)) () 1) ∗ (Ow c O -∗ Q ⟨⟩))
      ⊢ W c (semSignalWord n barS 1#32) Q := by
  subst hn
  unfold semSignalWord Ow
  iintro ⟨#Hctx, ⟨Ht, Hr⟩, Hg, ⟨%Wt, HO⟩, HQ⟩
  iapply (Rounds.wp_signal 𝒱₀ (ER F) (rd P) (c : Thread nD τ) none (dst := ((nb (!d) c : Dev nD) : Thread nD τ)) (κ := κ (barC (nb (!d) c)))
      (r := 0) (d := d) (by rw [duties_bar]; exact Finset.mem_univ _) rfl () O rfl) $$ [HO Ht Hr Hg]
  · isplitr; · iapply (inv_at P κ (bar_mem _)); iexact Hctx
    isplitl [HO]; · iexact HO
    isplitl [Ht]; · iexact Ht
    isplitl [Hg]; · rw [payload_bar, nb_forth]; iexact Hg
    iexact Hr
  iintro HO
  rw [wp_ret]; imodintro
  iapply HQ
  iexists _; iexact HO

/-- The wait for both greetings. -/
theorem wp_greeted (O : CellTallies nD τ sig Unit) (hO : Above 1 O) (Q : PUnit → sProp 𝕄) :
    iprop(Ctx P κ ∗ atPos (ER F) (barC c) 0 ∅ 0 ∗ cred (tallyAt (barC c) () 2) ∗ Ow c O
        ∗ (semVal (barC c) 0 -∗ gifts (nb false c) false -∗ gifts (nb true c) true -∗ Ow c O -∗ Q ⟨⟩))
      ⊢ W c (semWaitWord barS 2#32) Q := by
  unfold semWaitWord Ow
  iintro ⟨#Hctx, Ha, Hc, ⟨%Wt, HO⟩, HQ⟩
  ihave H := (Entails.of_eq (Ctx.eq_1 P κ)) $$ Hctx
  icases H with ⟨-, #Hl⟩
  iapply (Rounds.wp_wait_rest_token 𝒱₀ (ER F) (rd P) (c : Thread nD τ) none (κ := κ (barC c)) (sm := .reg barS) (k' := 2)
      (wpE_semWait_eq 𝒱₀ (c : Thread nD τ) none Set.univ) (Set.mem_univ _) () (O := O) (W := Wt) (R := 0) (m := 0) (T := ∅)
      (by rw [expect_bar])) $$ [Ha Hc HO]
  · isplitr; · iapply (inv_at P κ (bar_mem c)); iexact Hctx
    isplitl [Hc]; · iexact Hc
    isplitl [HO]; · iexact HO
    isplitr; · iapply (mayWait_of_above hO (le_refl 1)); iexact Hl
    iexact Ha
  iintro ⟨HO, Ha, -, Hp⟩
  imod (Rounds.cell_close (ER F) (rd P) (Set.mem_univ (κ (barC c))) (fun h => h) (R := 0 + 1) (duties_later P _)) $$ [Ha] with Hz
  · isplitr; · iapply (inv_at P κ (bar_mem c)); iexact Hctx
    iexact Ha
  rw [wp_ret]; imodintro
  ihave Hp := (Entails.of_eq (rest_bar P c)) $$ Hp
  icases Hp with ⟨H1, H2⟩
  iapply HQ $$ Hz H1 H2
  iexists _; iexact HO

/-- The whole body. -/
theorem wp_body (X : Vec F S128x2048 .f32) (Q : PUnit → sProp 𝕄) :
    iprop(Ctx (shares x w) κ ∗ Bar c ∗ (Dir c false ∗ Dir c true) ∗ (gifts c false ∗ gifts c true) ∗ (Ini c false 0 ∗ Ini c true 0)
        ∗ Ow c (O₀ c) ∗ Ins c arg0 arg1 arg2 (x c) (w c) ∗ owns (c : Thread nD τ) out fullShare X
        ∗ (semVal (barC c) 0 -∗ Done x w c arg0 arg1 arg2 out -∗ Q ⟨⟩))
      ⊢ W c (bodyP arg0 arg1 arg2 out (comm false) (comm_whole false) (comm true) (comm_whole true) (sndS false) (rcvS false) (sndS true) (rcvS true)) Q := by
  unfold bodyP Bar O₀
  iintro ⟨#Hctx, ⟨Hat, Hcr, HtL, HtR⟩, ⟨HDA, HDB⟩, ⟨HgA, HgB⟩, ⟨HIA, HIB⟩, HO, HI, Hout, HQ⟩
  ihave HI := (Entails.of_eq (Ins.eq_1 c arg0 arg1 arg2 (x c) (w c))) $$ HI
  icases HI with ⟨H0, H1, H2⟩
  rw [W_bind]
  iapply (wp_metaP c arg0 (k := 0) _)
  isplitl [H0]; · iexact H0
  iintro H0
  rw [W_bind]
  iapply (wp_assume 𝒱₀ (c : Thread nD τ) none Set.univ (chk_right c))
  rw [wp_ret]; imodintro
  rw [W_bind]
  iapply (wp_metaP c arg0 (k := 1) _)
  isplitl [H0]; · iexact H0
  iintro H0
  rw [W_bind]
  iapply (wp_assume 𝒱₀ (c : Thread nD τ) none Set.univ (chk_left c))
  rw [wp_ret]; imodintro
  rw [W_bind]
  iapply (wp_greet κ c (shares x w) false _ (dev_left c))
  isplitr; · iexact Hctx
  isplitl [HtL]; · iexact HtL
  isplitl [HgA]; · iexact HgA
  isplitl [HO]; · iexact HO
  iintro HO
  rw [W_bind]
  iapply (wp_greet κ c (shares x w) true _ (dev_right c))
  isplitr; · iexact Hctx
  isplitl [HtR]; · iexact HtR
  isplitl [HgB]; · iexact HgB
  isplitl [HO]; · iexact HO
  iintro HO
  rw [W_bind]
  iapply (wp_sharesP c arg0 arg1 arg2 (x c) (w c) (t := 0) _)
  isplitl [H0 H1 H2]
  · unfold Ins
    isplitl [H0]; · iexact H0
    isplitl [H1]; · iexact H1
    iexact H2
  iintro HI
  rw [W_bind]
  iapply (wp_greeted κ c (shares x w) (Due c 0 0) (Due_above c (by omega) (by omega)))
  isplitr; · iexact Hctx
  isplitl [Hat]; · iexact Hat
  isplitl [Hcr]; · iexact Hcr
  isplitl [HO]; · iexact HO
  iintro Hz HgA HgB HO
  ihave HA := (Dir_start c false) $$ [HDA HgA]
  · isplitl [HDA]; · iexact HDA
    iexact HgA
  ihave HB := (Dir_start c true) $$ [HDB HgB]
  · isplitl [HDB]; · iexact HDB
    iexact HgB
  rw [W_bind]
  iapply (wp_four c (Ctx (shares x w) κ) (fun j => iprop(Main c j 0 0 ∗ Ini c false j ∗ Ini c true j)) _
    (wp_startP κ c (shares x w) _ _ (dev_right c) (dev_left c)))
  isplitr; · iexact Hctx
  isplitl [HA HB HO HIA HIB]
  · isplitl [HA HB HO]
    · unfold Main
      isplitl [HA]; · iexact HA
      isplitl [HB]; · iexact HB
      iexact HO
    isplitl [HIA]; · iexact HIA
    iexact HIB
  iintro ⟨HM, -, -⟩
  rw [W_bind]
  iapply (wp_sharesP c arg0 arg1 arg2 (x c) (w c) (t := 1) _)
  isplitl [HI]; · iexact HI
  iintro HI
  iapply (wp_hopsFrom x w κ c arg0 arg1 arg2 out _ _ (dev_right c) (dev_left c) 14 0 rfl)
  isplitr; · iexact Hctx
  isplitl [HM]; · iexact HM
  isplitr; · unfold Fin'; rw [Nat.add_zero, Finset.Ico_self, bigSep_empty]; iempintro
  isplitr; · unfold Fin'; rw [Nat.add_zero, Finset.Ico_self, bigSep_empty]; iempintro
  isplitl [HI]; · iexact HI
  isplitl [Hout]; · iapply (Outs_start (shares x w) c out X); iexact Hout
  iapply HQ; iexact Hz

end Both

end Cert.Proof

end
-- ==== Proof.ProgEq.lean ====
/-
  The printed body is the chain of steps `bodyP` of `Proof/Prog.lean`.
-/
module

public import proofs.«01_k».proof.Proof.Prog

@[expose] public section

noncomputable section

namespace Cert.Proof

open Cert.KernelIdeal Cert.KernelIdeal.Gen
open Idealize.ShloMosaic Idealize.SL.Sem

variable {F : FTy → Type} [FloatOps F]
variable (arg0 : Memref sig .tc .smem S34 .i32) (harg0 : arg0.IsWhole) (arg1 : Memref sig .tc .vmem S2048x128 .f32) (harg1 : arg1.IsWhole)
  (arg2 : Memref sig .tc .vmem S128x2048 .f32) (harg2 : arg2.IsWhole) (arg3 : Memref sig .tc .vmem S128x2048 .f32) (harg3 : arg3.IsWhole)
  (arg4 : Memref sig .tc .vmem S16x4x128x256 .bf16) (harg4 : arg4.IsWhole)
  (arg5 : Memref sig .tc .vmem S16x4x128x256 .bf16) (harg5 : arg5.IsWhole)
  (arg6 arg7 arg8 arg9 : DmaSems sig S15x4)

set_option maxRecDepth 65536 in
set_option maxHeartbeats 4000000 in
/-- The printed body is `bodyP`. -/
theorem body_eq : cc0_body (F := F) arg0 harg0 arg1 harg1 arg2 harg2 arg3 harg3 arg4 harg4 arg5 harg5 arg6 arg7 arg8 arg9
    = bodyP arg0 arg1 arg2 arg3 arg4 harg4 arg5 harg5 arg6 arg7 arg8 arg9 := rfl

end Cert.Proof

end
-- ==== Proof.Slots.lean ====
/-
  A communication buffer held whole is its 64 slots, and the 64 slots are the buffer.
-/
module

public import proofs.«01_k».proof.Proof.Proto
public import Idealize.ShloMosaic.Lib.Ring

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- A family over the first `n` numbers, by number. -/
theorem bigSep_fin {n : ℕ} (A : ℕ → sProp 𝕄) : bigSep Finset.univ (fun k : Fin n => A k.val) = bigSep (Finset.Ico 0 n) A := by
  rw [← Finset.range_eq_Ico]; exact Ring.bigSep_fin_eq_range n _ A fun _ _ => rfl

/-- A run of numbers in two parts, and a run shifted. -/
theorem bigSep_run {a b n : ℕ} (hab : a ≤ b) (hbn : b ≤ n) (A : ℕ → sProp 𝕄) :
    bigSep (Finset.Ico a n) A = iprop(bigSep (Finset.Ico a b) A ∗ bigSep (Finset.Ico b n) A) := by
  rw [← Finset.Ico_union_Ico_eq_Ico hab hbn, bigSep_union (Finset.Ico_disjoint_Ico_consecutive a b n)]; rfl

theorem bigSep_shift (a b k : ℕ) (A : ℕ → sProp 𝕄) :
    bigSep (Finset.Ico a b) (fun g => A (g + k)) = bigSep (Finset.Ico (a + k) (b + k)) A := by
  have e : Finset.Ico (a + k) (b + k) = (Finset.Ico a b).map ⟨(· + k), fun _ _ h => Nat.add_right_cancel h⟩ := by
    ext i
    simp only [Finset.mem_Ico, Finset.mem_map, Function.Embedding.coeFn_mk]
    exact ⟨fun h => ⟨i - k, ⟨by omega, by omega⟩, Nat.sub_add_cancel (by omega)⟩, fun ⟨j, hj, e⟩ => by have e : j + k = i := e; omega⟩
  rw [e, bigSep_map]; rfl

theorem bigSep_bool (A : Bool → sProp 𝕄) : bigSep Finset.univ A = iprop(A false ∗ A true) := by
  rw [show (Finset.univ : Finset Bool) = {false, true} from by decide, bigSep_insert (by decide), bigSep_singleton]; rfl

/-- The rectangle of slot `q`. -/
def slotQ (q : ℕ) : Rect S16x4x128x256 := slotR (q / 4 % 16) (q % 4) (Nat.mod_lt _ (by decide)) (Nat.mod_lt _ (by decide))

theorem mem_slotQ (q : ℕ) (i : S16x4x128x256.Idx) (hq : q < 64) : i ∈ (slotQ q).set ↔ q = 4 * (i 0).val + (i 1).val := by
  have h2 : (i 2).val < 128 := (i 2).isLt
  have h3 : (i 3).val < 256 := (i 3).isLt
  have h0 : (i 0).val < 16 := (i 0).isLt
  have h1 : (i 1).val < 4 := (i 1).isLt
  have hh : i ∈ (slotQ q).set ↔ ∀ a, (![q / 4 % 16, q % 4, 0, 0] : Fin 4 → ℕ) a ≤ (i a).val ∧ (i a).val < (![q / 4 % 16, q % 4, 0, 0] : Fin 4 → ℕ) a + S1x1x128x256.size a :=
    Rect.mem_set_unit (inb := slot_inb (Nat.mod_lt _ (by decide)) (Nat.mod_lt _ (by decide)))
  rw [hh]
  constructor
  · intro h
    have a0 : q / 4 % 16 ≤ (i 0).val ∧ (i 0).val < q / 4 % 16 + 1 := h 0
    have a1 : q % 4 ≤ (i 1).val ∧ (i 1).val < q % 4 + 1 := h 1
    omega
  · intro h a
    fin_cases a
    · show q / 4 % 16 ≤ (i 0).val ∧ (i 0).val < q / 4 % 16 + 1
      omega
    · show q % 4 ≤ (i 1).val ∧ (i 1).val < q % 4 + 1
      omega
    · exact ⟨Nat.zero_le _, by show (i 2).val < 0 + 128; omega⟩
    · exact ⟨Nat.zero_le _, by show (i 3).val < 0 + 256; omega⟩

theorem set_slotF (d : Bool) (q : ℕ) : (slotF d q).view.set = (slotQ q).set.map (comm d).view.emb :=
  (View.set_reshape _ _).trans (View.set_slice _ _)

section Split

variable (c : Dev nD) (d : Bool)

/-- The elements of slot `q`. -/
def slotI (q : Fin 64) : Finset (Idx ((comm d).view.loc (c : Thread nD τ))) := (slotF d q).view.set

theorem slotI_disj (q q' : Fin 64) (h : q ≠ q') : Disjoint (slotI c d q) (slotI c d q') := by
  unfold slotI
  rw [set_slotF, set_slotF]
  refine (Finset.disjoint_map _).mpr (Finset.disjoint_left.mpr fun i hi hi' => h (Fin.ext ?_))
  rw [(mem_slotQ _ i q.2).mp hi, (mem_slotQ _ i q'.2).mp hi']

theorem comm_onto (i : Idx ((comm d).view.loc (c : Thread nD τ))) : ∃ j, (comm d).view.emb j = i := by
  cases d <;> exact ⟨i, rfl⟩

theorem slotI_cover : Finset.univ.biUnion (slotI c d) = Finset.univ := by
  refine Finset.eq_univ_iff_forall.mpr fun i => ?_
  obtain ⟨j, rfl⟩ := comm_onto c d i
  have h0 : (j 0).val < 16 := (j 0).isLt
  have h1 : (j 1).val < 4 := (j 1).isLt
  refine Finset.mem_biUnion.mpr ⟨⟨4 * (j 0).val + (j 1).val, by omega⟩, Finset.mem_univ _, ?_⟩
  unfold slotI
  rw [set_slotF]
  exact Finset.mem_map_of_mem _ ((mem_slotQ _ j (by show 4 * (j 0).val + (j 1).val < 64; omega)).mpr rfl)

theorem slot_in (q : Fin 64) (f : Buf (Elt F) ((comm d).view.loc (c : Thread nD τ))) :
    ((comm d).view.loc (c : Thread nD τ) ↦[slotI c d q]{fullShare} f : sProp 𝕄) ⊢ anySlot c d q := by
  unfold anySlot owns
  iintro H
  iexists ((slotF d q).view.read (Elt F) f)
  iexists f
  isplitr
  · ipureintro; rfl
  · iexact H

theorem slot_out (q : Fin 64) :
    (anySlot c d q : sProp 𝕄) ⊢ iprop(∃ f : Buf (Elt F) ((comm d).view.loc (c : Thread nD τ)), (comm d).view.loc (c : Thread nD τ) ↦[slotI c d q]{fullShare} f) := by
  unfold anySlot owns
  iintro ⟨%X, %f, %hf, H⟩
  iexists f
  iexact H

theorem slots_split (f : Buf (Elt F) ((comm d).view.loc (c : Thread nD τ))) :
    ((comm d).view.loc (c : Thread nD τ) ↦{fullShare} f : sProp 𝕄) ⊢ bigSep (Finset.Ico 0 64) (anySlot c d) := by
  rw [Ring.pointsTo_blocks (slotI c d) (slotI_disj c d) (slotI_cover c d), ← bigSep_fin (n := 64)]
  exact bigSep_mono fun q _ => slot_in c d q f

/-- Some contents of the buffer. -/
def anyBuf [FloatOps F] : Buf (Elt F) ((comm d).view.loc (c : Thread nD τ)) := fun i =>
  match d with
  | false => (FloatOps.ofBits .bf16 0 : F .bf16)
  | true => (FloatOps.ofBits .bf16 0 : F .bf16)

theorem slots_join [FloatOps F] : (bigSep (Finset.Ico 0 64) (anySlot c d) : sProp 𝕄)
    ⊢ iprop(∃ f, (comm d).view.loc (c : Thread nD τ) ↦{fullShare} f) := by
  have h : bigSep (Finset.Ico 0 64) (anySlot (F := F) c d)
      ⊢ bigSep Finset.univ fun q : Fin 64 => iprop(∃ f : Buf (Elt F) ((comm d).view.loc (c : Thread nD τ)), (comm d).view.loc (c : Thread nD τ) ↦[slotI c d q]{fullShare} f) := by
    rw [← bigSep_fin (n := 64)]
    exact bigSep_mono fun q _ => slot_out c d q
  exact h.trans (Ring.pointsTo_blocks_join_exists (slotI c d) (slotI_disj c d) (slotI_cover c d) (anyBuf c d))

end Split

end Cert.Proof

end
-- ==== Proof.Table.lean ====
/-
  The table each device's host code makes: its two neighbours and the chunks of the two directions, read from the
  ring's order at the device's own position.
-/
module

public import proofs.«01_k».proof.Proof.Ring
public import proofs.«01_k».proof.Proof.Gen.KernelIdeal.Regions

@[expose] public section

set_option maxRecDepth 4000

noncomputable section

namespace Cert.Proof

open Cert.KernelIdeal Cert.KernelIdeal.Gen
open Idealize.ShloMosaic
open Idealize.ShloMosaic.TcCoe
open Idealize.SL.Sem

variable {F : FTy → Type} [FloatOps F] (m : (ℓ : Loc nD τ sig) → Buf (Elt F) ℓ) (c : Dev nD)

/-! ## What the host's operations compute, on words -/

/-- A negative index counts from the end. -/
def wrapI {s : Shape} (z b x : IVec s 32) : IVec s 32 := select (cmpi .slt x z) (addi x b) x

/-- The ring's word at an index. -/
def lookI (x : IVec S16 32) (i : IVec S_ 32) : IVec S_ 32 :=
  shapeCast S_ (Host.dynamicSlice S1 x (fun _ => (i (Shape.Idx.first h_S_)).toInt) sliceFits_S16_S1) shapeCasts_S1_S_

/-- The divisor, one where it is zero. -/
def divI (b : IVec S_ 32) : IVec S_ 32 := select (cmpi .eq b (constantI S_ 32 0#32)) (constantI S_ 32 1#32) b

/-- The remainder with the divisor's sign. -/
def remI (x b : IVec S_ 32) : IVec S_ 32 :=
  select (andi (cmpi .ne (cmpi .slt (Host.remsi x (divI b)) (constantI S_ 32 0#32)) (cmpi .slt (divI b) (constantI S_ 32 0#32)))
      (cmpi .ne (Host.remsi x (divI b)) (constantI S_ 32 0#32)))
    (addi (Host.remsi x (divI b)) (divI b)) (Host.remsi x (divI b))

/-- A scalar along the ring. -/
def spread {w : ℕ} (b : IVec S_ w) : IVec S16 w := broadcastInDim S16 ![] bcast_S_S16 b

/-- The same remainder along the ring. -/
def remV (x : IVec S16 32) (b : IVec S_ 32) : IVec S16 32 :=
  select (andi (cmpi .ne (cmpi .slt (Host.remsi x (spread (divI b))) (spread (constantI S_ 32 0#32)))
        (spread (cmpi .slt (divI b) (constantI S_ 32 0#32))))
      (cmpi .ne (Host.remsi x (spread (divI b))) (spread (constantI S_ 32 0#32))))
    (addi (Host.remsi x (spread (divI b))) (spread (divI b))) (Host.remsi x (spread (divI b)))

/-- The ring's words at indices. -/
def lookV (x i : IVec S16 32) : IVec S16 32 :=
  Host.gather gather_S16_S16x1_S16_n_0_n_n_0_1_1 x
    (broadcastInDim S16x1 ![0] bcast_S16_S16x1_0 (wrapI (spread (constantI S_ 32 0#32)) (spread (constantI S_ 32 16#32)) i))

abbrev kI (n : BitVec 32) : IVec S_ 32 := constantI S_ 32 n
abbrev ringI : IVec S16 32 := fun i => lit0 (S16.rowMajor i)
abbrev posnI : IVec S16 32 := fun i => lit1 (S16.rowMajor i)

section Stages

variable (V : Valuation τ sig (Elt F))

theorem s0_c : StableHlo.after (hostOps0 c) V main_c = ringI := by exact rfl
theorem s0_c6 : StableHlo.after (hostOps0 c) V main_c_6 = kI 16#32 := by exact rfl
theorem s0_v9 : StableHlo.after (hostOps0 c) V main_v9
    = lookI posnI (wrapI (kI 0#32) (kI 16#32) (Host.remui (Host.divui (kI (Dev.word c)) (kI 1#32)) (kI 16#32))) :=
  congrArg (fun f => shapeCast S_ (Host.dynamicSlice S1 posnI f sliceFits_S16_S1) shapeCasts_S1_S_)
    (funext fun k => by obtain rfl := Subsingleton.elim k 0; rfl)
theorem s0_v10 : StableHlo.after (hostOps0 c) V main_v10 = addi (StableHlo.after (hostOps0 c) V main_v9) (kI 1#32) := by exact rfl
theorem s1_v11 : StableHlo.after hostOps0_1 V main_v11 = remI (V main_v10) (V main_c_6) := by
  show StableHlo.after hostOps0_1 V (Proc.devRef .tc main_v11) = _
  after_results
  simp only [StableHlo.TRef.toBuf, StableHlo.TRef.ofBuf, cast_eq, id]
  rfl
theorem s2_v16 : StableHlo.after hostOps0_2 V main_v16 = lookI (V main_c) (wrapI (kI 0#32) (kI 16#32) (V main_v11)) :=
  congrArg (fun f => shapeCast S_ (Host.dynamicSlice S1 (V main_c) f sliceFits_S16_S1) shapeCasts_S1_S_)
    (funext fun k => by obtain rfl := Subsingleton.elim k 0; rfl)
theorem s2_v17 : StableHlo.after hostOps0_2 V main_v17 = subi (V main_v9) (kI 1#32) := by exact rfl
theorem s2_c10 : StableHlo.after hostOps0_2 V main_c_10 = kI 16#32 := by exact rfl
theorem s3_v18 : StableHlo.after hostOps0_3 V main_v18 = remI (V main_v17) (V main_c_10) := by
  show StableHlo.after hostOps0_3 V (Proc.devRef .tc main_v18) = _
  after_results
  simp only [StableHlo.TRef.toBuf, StableHlo.TRef.ofBuf, cast_eq, id]
  rfl
theorem s4_v23 : StableHlo.after hostOps0_4 V main_v23 = lookI (V main_c) (wrapI (kI 0#32) (kI 16#32) (V main_v18)) :=
  congrArg (fun f => shapeCast S_ (Host.dynamicSlice S1 (V main_c) f sliceFits_S16_S1) shapeCasts_S1_S_)
    (funext fun k => by obtain rfl := Subsingleton.elim k 0; rfl)
theorem s4_v24 : StableHlo.after hostOps0_4 V main_v24 = iotaInDim S16 32 0 := by exact rfl
theorem s4_v27 : StableHlo.after hostOps0_4 V main_v27 = subi (spread (subi (V main_v9) (kI 1#32))) (iotaInDim S16 32 0) := by exact rfl
theorem s4_c14 : StableHlo.after hostOps0_4 V main_c_14 = kI 16#32 := by exact rfl
theorem s5_v28 : StableHlo.after hostOps0_5 V main_v28 = remV (V main_v27) (V main_c_14) := by
  show StableHlo.after hostOps0_5 V (Proc.devRef .tc main_v28) = _
  after_results
  simp only [StableHlo.TRef.toBuf, StableHlo.TRef.ofBuf, cast_eq, id]
  rfl
theorem s6_v35 : StableHlo.after hostOps0_6 V main_v35 = lookV (V main_c) (V main_v28) := by exact rfl
theorem s6_v38 : StableHlo.after hostOps0_6 V main_v38 = addi (spread (addi (V main_v9) (kI 1#32))) (V main_v24) := by exact rfl
theorem s6_c18 : StableHlo.after hostOps0_6 V main_c_18 = kI 16#32 := by exact rfl
theorem s7_v39 : StableHlo.after hostOps0_7 V main_v39 = remV (V main_v38) (V main_c_18) := by
  show StableHlo.after hostOps0_7 V (Proc.devRef .tc main_v39) = _
  after_results
  simp only [StableHlo.TRef.toBuf, StableHlo.TRef.ofBuf, cast_eq, id]
  rfl

/-- The table of two words and two rows of words. -/
def catI (a b : IVec S_ 32) (u v : IVec S16 32) : IVec S34 32 :=
  concatenate S34 0 [⟨S1, broadcastInDim S1 ![] bcast_S_S1 a⟩, ⟨S1, broadcastInDim S1 ![] bcast_S_S1 b⟩, ⟨S16, u⟩, ⟨S16, v⟩]
    concatenates_S1_S1_S16_S16_S34_d0

theorem s8_v49 : StableHlo.after hostOps0_8 V main_v49 = catI (V main_v16) (V main_v23) (V main_v35) (lookV (V main_c) (V main_v39)) := by exact rfl

end Stages

/-! ## The table, from the device's number -/

/-- The device's position in the ring. -/
def posI (c : Dev nD) : IVec S_ 32 :=
  lookI posnI (wrapI (kI 0#32) (kI 16#32) (Host.remui (Host.divui (kI (Dev.word c)) (kI 1#32)) (kI 16#32)))

/-- The position, its four results by the ring's order. -/
def tableOf (p : IVec S_ 32) : IVec S34 32 :=
  catI (lookI ringI (wrapI (kI 0#32) (kI 16#32) (remI (addi p (kI 1#32)) (kI 16#32))))
    (lookI ringI (wrapI (kI 0#32) (kI 16#32) (remI (subi p (kI 1#32)) (kI 16#32))))
    (lookV ringI (remV (subi (spread (subi p (kI 1#32))) (iotaInDim S16 32 0)) (kI 16#32)))
    (lookV ringI (remV (addi (spread (addi p (kI 1#32))) (iotaInDim S16 32 0)) (kI 16#32)))

theorem posI_at : ∀ (c : Dev nD) (i : S_.Idx), posI c i = kI (BitVec.ofNat 32 (iperm c).val) i := by decide

theorem posI_eq (c : Dev nD) : posI c = kI (BitVec.ofNat 32 (iperm c).val) := funext (posI_at c)

theorem tableOf_at : ∀ (c : Dev nD) (i : S34.Idx), tableOf (kI (BitVec.ofNat 32 (iperm c).val)) i = metaW c (i 0) := by decide

/-- The kernel's table on device `c`. -/
theorem table_eq : V9 m c main_v49 = fun i : S34.Idx => metaW c (i 0) := by
  have h9 : V1 m c main_v9 = posI c := s0_v9 c (V0 m c)
  have hc : V1 m c main_c = ringI := s0_c c (V0 m c)
  have h11 : V2 m c main_v11 = remI (addi (posI c) (kI 1#32)) (kI 16#32) := by
    rw [show V2 m c main_v11 = _ from s1_v11 (V1 m c), show V1 m c main_v10 = _ from s0_v10 c (V0 m c), show V1 m c main_c_6 = _ from s0_c6 c (V0 m c)]
    exact congrArg (fun p => remI (addi p (kI 1#32)) (kI 16#32)) h9
  have c2 : V2 m c main_c = ringI := (V2_of m c main_c (by decide)).trans hc
  have h92 : V2 m c main_v9 = posI c := (V2_of m c main_v9 (by decide)).trans h9
  have c4 : V4 m c main_c = ringI := (V4_of m c main_c (by decide)).trans <| (V3_of m c main_c (by decide)).trans c2
  have h94 : V4 m c main_v9 = posI c := (V4_of m c main_v9 (by decide)).trans <| (V3_of m c main_v9 (by decide)).trans h92
  have c6 : V6 m c main_c = ringI := (V6_of m c main_c (by decide)).trans <| (V5_of m c main_c (by decide)).trans c4
  have h96 : V6 m c main_v9 = posI c := (V6_of m c main_v9 (by decide)).trans <| (V5_of m c main_v9 (by decide)).trans h94
  have c8 : V8 m c main_c = ringI := (V8_of m c main_c (by decide)).trans <| (V7_of m c main_c (by decide)).trans c6
  have h16 : V8 m c main_v16 = lookI ringI (wrapI (kI 0#32) (kI 16#32) (remI (addi (posI c) (kI 1#32)) (kI 16#32))) :=
    (V8_of m c main_v16 (by decide)).trans <| (V7_of m c main_v16 (by decide)).trans <| (V6_of m c main_v16 (by decide)).trans <|
      (V5_of m c main_v16 (by decide)).trans <| (V4_of m c main_v16 (by decide)).trans <| (s2_v16 (V2 m c)).trans (by rw [c2, h11])
  have h18 : V4 m c main_v18 = remI (subi (posI c) (kI 1#32)) (kI 16#32) :=
    (s3_v18 (V3 m c)).trans (by rw [show V3 m c main_v17 = _ from s2_v17 (V2 m c), show V3 m c main_c_10 = _ from s2_c10 (V2 m c), h92])
  have h23 : V8 m c main_v23 = lookI ringI (wrapI (kI 0#32) (kI 16#32) (remI (subi (posI c) (kI 1#32)) (kI 16#32))) :=
    (V8_of m c main_v23 (by decide)).trans <| (V7_of m c main_v23 (by decide)).trans <| (V6_of m c main_v23 (by decide)).trans <|
      (s4_v23 (V4 m c)).trans (by rw [c4, h18])
  have h28 : V6 m c main_v28 = remV (subi (spread (subi (posI c) (kI 1#32))) (iotaInDim S16 32 0)) (kI 16#32) :=
    (s5_v28 (V5 m c)).trans (by rw [show V5 m c main_v27 = _ from s4_v27 (V4 m c), show V5 m c main_c_14 = _ from s4_c14 (V4 m c), h94])
  have h35 : V8 m c main_v35 = lookV ringI (remV (subi (spread (subi (posI c) (kI 1#32))) (iotaInDim S16 32 0)) (kI 16#32)) :=
    (V8_of m c main_v35 (by decide)).trans <| (s6_v35 (V6 m c)).trans (by rw [c6, h28])
  have h24 : V6 m c main_v24 = iotaInDim S16 32 0 := (V6_of m c main_v24 (by decide)).trans (s4_v24 (V4 m c))
  have h39 : V8 m c main_v39 = remV (addi (spread (addi (posI c) (kI 1#32))) (iotaInDim S16 32 0)) (kI 16#32) :=
    (s7_v39 (V7 m c)).trans (by rw [show V7 m c main_v38 = _ from s6_v38 (V6 m c), show V7 m c main_c_18 = _ from s6_c18 (V6 m c), h96, h24])
  refine (s8_v49 (V8 m c)).trans ?_
  rw [h16, h23, h35, h39, c8, posI_eq]
  exact funext (tableOf_at c)

end Cert.Proof

end
-- ==== Proof.Region.lean ====
/-
  The kernel's region: what the pipeline keeps of its four windows, what a device holds when the body starts and when it
  is done, and the body as the pipeline calls it.
-/
module

public import proofs.«01_k».proof.Proof.Hops
public import proofs.«01_k».proof.Proof.ProgEq
public import proofs.«01_k».proof.Proof.Slots
public import proofs.«01_k».proof.Proof.Table
public import proofs.«01_k».proof.Proof.Gen.KernelIdeal.Points

@[expose] public section

set_option maxRecDepth 4000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents -/

/-- Device `c`'s argument buffers at launch. -/
def xB (c : Dev nD) : Vec F S2048x128 .f32 := m (c, Proc.devRef .tc main_arg0)
def wB (c : Dev nD) : Vec F S128x2048 .f32 := m (c, Proc.devRef .tc main_arg1)

/-- Every device's shares. -/
def sh : Dev nD → Bool → ℕ → FVec F S128x1024 .f32 := shares (xB m) (wB m)

/-- Device `c`'s result. -/
def outB (c : Dev nD) : Vec F S128x2048 .f32 := outFun (sh m) c

/-! ## What a device holds at the start and at the end -/

variable (c : Dev nD)

/-- At the start. -/
def Start : sProp 𝕄 :=
  iprop((∃ κ, Ctx (sh m) κ) ∗ Bar c ∗ (Dir c false ∗ Dir c true) ∗ (gifts c false ∗ gifts c true) ∗ (Ini c false 0 ∗ Ini c true 0)
    ∗ ∃ r, prngReg c r)

/-- At the end. -/
def End : sProp 𝕄 :=
  iprop(semVal (barC c) 0 ∗ (St c false 60 60 60 ∗ St c true 60 60 60) ∗ (Fin' c false 4 ∗ Fin' c true 4) ∗ ∃ r, prngReg c r)

/-- The pipeline's data. -/
def dats (_ : Fin 1) (c : Dev nD) : Dat τ (Elt F) Unit ℕ UU ℕ cfg0 c where
  A w := V9 m c (Proc.devRef .tc (Pipeline.arrRef cfg0.spec w))
  after w _ := match w with
    | ⟨0, _⟩ => metaX c
    | ⟨1, _⟩ => xB m c
    | ⟨2, _⟩ => wB m c
    | ⟨3, _⟩ => outB m c
  Φ t := match t with
    | ⟨0, _⟩ => Start m c
    | ⟨_ + 1, _⟩ => End c
  q _ := fullShare
  owed t := match t with
    | ⟨0, _⟩ => O₀ c
    | ⟨_ + 1, _⟩ => 0

/-- What the region leaves in the buffers it may write: the result in its own. -/
def outsM : Gen.Outs (F := F) := fun _ r c => if h : main_v50 = r then h ▸ outB m c else V9 m c (Proc.devRef .tc r)

theorem outsM_eq (n : ℕ) : outsM m n main_v50 c = outB m c := dif_pos rfl

/-! ## The windows are whole arrays -/

/-- A rectangle of the shape's own sizes places every index at itself. -/
theorem emb_full {s : Shape} {off : Fin s.rank → ℕ} (inb : ∀ a, off a + s.size a ≤ s.size a) (i : s.Idx) : (Rect.unit off s.size inb).emb i = i :=
  funext fun a => Fin.ext (by show off a + 1 * (i a).val = _; have := inb a; omega)

theorem V9_arg0 : V9 m c main_arg0 = xB m c := (V10_of m (outsM m) c main_arg0 (by decide)).symm.trans (V10_main_arg0 m (outsM m) c)
theorem V9_arg1 : V9 m c main_arg1 = wB m c := (V10_of m (outsM m) c main_arg1 (by decide)).symm.trans (V10_main_arg1 m (outsM m) c)

theorem blk_read0 (f : (main_v49 : Ref sig .tc).ty.Contents (Elt F)) : (win0_0.blk t0_0).view.read (Elt F) f = f := by
  funext i; exact congrArg f (emb_full _ i)
theorem blk_read1 (f : (main_arg0 : Ref sig .tc).ty.Contents (Elt F)) : (win0_1.blk t0_0).view.read (Elt F) f = f := by
  funext i; exact congrArg f (emb_full _ i)
theorem blk_read2 (f : (main_arg1 : Ref sig .tc).ty.Contents (Elt F)) : (win0_2.blk t0_0).view.read (Elt F) f = f := by
  funext i; exact congrArg f (emb_full _ i)
theorem blk_read3 (f : (main_v50 : Ref sig .tc).ty.Contents (Elt F)) : (win0_3.blk t0_0).view.read (Elt F) f = f := by
  funext i; exact congrArg f (emb_full _ i)

theorem before0 (d : S34.Idx → Elt F .i32) : (dats m 0 c).before (0 : Fin 4) t0_0 d = metaX c := by
  unfold Dat.before; rw [if_pos (fetch0_0 t0_0)]
  exact (blk_read0 _).trans (table_eq m c)
theorem before1 (d : S2048x128.Idx → Elt F .f32) : (dats m 0 c).before (1 : Fin 4) t0_0 d = xB m c := by
  unfold Dat.before; rw [if_pos (fetch0_1 t0_0)]
  exact (blk_read1 _).trans (V9_arg0 m c)
theorem before2 (d : S128x2048.Idx → Elt F .f32) : (dats m 0 c).before (2 : Fin 4) t0_0 d = wB m c := by
  unfold Dat.before; rw [if_pos (fetch0_2 t0_0)]
  exact (blk_read2 _).trans (V9_arg1 m c)

/-- The result's array at the end. -/
theorem arr_end : (dats m 0 c).arrAt (3 : Fin 4) cfg0.N = outB m c := by
  refine (dats m 0 c).arrAt_eq_of_cover (3 : Fin 4) (outB m c) (fun t _ => ?_) fun i => ⟨t0_0, flush0_3 _, ?_⟩
  · rw [fin_N0 t]; exact (blk_read3 (outB m c)).symm
  · have h := ((cfg0.win (3 : Fin 4)).blk t0_0).view.emb_mem_set i
    rw [show ((cfg0.win (3 : Fin 4)).blk t0_0).view.emb i = i from emb_full _ i] at h
    exact h

theorem arr_in0 (n : ℕ) : (dats m 0 c).arrAt (0 : Fin 4) n = V9 m c (Proc.devRef .tc main_v49) := (dats m 0 c).arrAt_in (0 : Fin 4) rfl _
theorem arr_in1 (n : ℕ) : (dats m 0 c).arrAt (1 : Fin 4) n = V9 m c (Proc.devRef .tc main_arg0) := (dats m 0 c).arrAt_in (1 : Fin 4) rfl _
theorem arr_in2 (n : ℕ) : (dats m 0 c).arrAt (2 : Fin 4) n = V9 m c (Proc.devRef .tc main_arg1) := (dats m 0 c).arrAt_in (2 : Fin 4) rfl _

theorem share_eq (w : Fin 4) : (dats m 0 c).share w = fullShare := by unfold Dat.share; split <;> rfl

/-! ## The body -/

/-- What the body is run from and to, buffer by buffer. -/
def bodyPre : sProp 𝕄 :=
  iprop(Start m c ∗ (dats m 0 c).owesAt () t0_0.castSucc
    ∗ (∃ d, owns (c : Thread nD τ) (win0_0.stage (cfg0.slots t0_0 0)) fullShare ((dats m 0 c).before (0 : Fin 4) t0_0 d))
    ∗ (∃ d, owns (c : Thread nD τ) (win0_1.stage (cfg0.slots t0_0 1)) fullShare ((dats m 0 c).before (1 : Fin 4) t0_0 d))
    ∗ (∃ d, owns (c : Thread nD τ) (win0_2.stage (cfg0.slots t0_0 2)) fullShare ((dats m 0 c).before (2 : Fin 4) t0_0 d))
    ∗ (∃ d, owns (c : Thread nD τ) (win0_3.stage (cfg0.slots t0_0 3)) fullShare ((dats m 0 c).before (3 : Fin 4) t0_0 d)))
def bodyPost : sProp 𝕄 :=
  iprop(End c ∗ (dats m 0 c).owesAt () t0_0.succ
    ∗ owns (c : Thread nD τ) (win0_0.stage (cfg0.slots t0_0 0)) fullShare (metaX c)
    ∗ owns (c : Thread nD τ) (win0_1.stage (cfg0.slots t0_0 1)) fullShare (xB m c)
    ∗ owns (c : Thread nD τ) (win0_2.stage (cfg0.slots t0_0 2)) fullShare (wB m c)
    ∗ owns (c : Thread nD τ) (win0_3.stage (cfg0.slots t0_0 3)) fullShare (outB m c))

theorem owes_in : (dats m 0 c).owesAt () t0_0.castSucc ⊢ Ow c (O₀ c) := by
  unfold Dat.owesAt Pipeline.owesWithin
  rw [show (dats m 0 c).owed t0_0.castSucc = O₀ c from rfl]
  unfold Ow
  iintro ⟨%Wt, %h, H⟩
  iexists Wt
  iexact H

theorem owes_out : Ow c 0 ⊢ (dats m 0 c).owesAt () t0_0.succ := by
  unfold Dat.owesAt Pipeline.owesWithin
  rw [show (dats m 0 c).owed t0_0.succ = 0 from rfl]
  unfold Ow
  iintro ⟨%Wt, H⟩
  iexists Wt
  isplitr
  · ipureintro; exact fun _ _ => Or.inl trivial
  iexact H

theorem run_body : bodyPre m c ⊢ W c (bodyP (win0_0.stage (cfg0.slots t0_0 0)) (win0_1.stage (cfg0.slots t0_0 1)) (win0_2.stage (cfg0.slots t0_0 2))
    (win0_3.stage (cfg0.slots t0_0 3)) (comm false) (comm_whole false) (comm true) (comm_whole true) (sndS false) (rcvS false) (sndS true) (rcvS true))
    (fun _ => bodyPost m c) := by
  unfold bodyPre Start
  iintro ⟨⟨⟨%κ, #HC⟩, HB, HD, HG, HI, HP⟩, HO, ⟨%d0, H0⟩, ⟨%d1, H1⟩, ⟨%d2, H2⟩, ⟨%d3, H3⟩⟩
  ihave HO := (owes_in m c) $$ HO
  rw [before0, before1, before2]
  iapply (wp_body (xB m) (wB m) κ c _ _ _ _ _ _)
  isplitr; · iexact HC
  isplitl [HB]; · iexact HB
  isplitl [HD]; · iexact HD
  isplitl [HG]; · iexact HG
  isplitl [HI]; · iexact HI
  isplitl [HO]; · iexact HO
  isplitl [H0 H1 H2]
  · unfold Ins
    isplitl [H0]; · iexact H0
    isplitl [H1]; · iexact H1
    iexact H2
  isplitl [H3]; · iexact H3
  iintro Hb HQ
  unfold Done Main Ins bodyPost End
  icases HQ with ⟨⟨Hf, Ht, HO⟩, Hf', Ht', ⟨H0, H1, H2⟩, H3⟩
  rw [Due_done]
  ihave HO := (owes_out m c) $$ HO
  isplitl [Hb Hf Ht Hf' Ht' HP]
  · isplitl [Hb]; · iexact Hb
    isplitl [Hf Ht]; · isplitl [Hf] <;> iassumption
    isplitl [Hf' Ht']; · isplitl [Hf'] <;> iassumption
    iexact HP
  isplitl [HO]; · iexact HO
  isplitl [H0]; · iexact H0
  isplitl [H1]; · iexact H1
  isplitl [H2]; · iexact H2
  iexact H3

/-- The body as the pipeline calls it. -/
theorem body_at : bodyAt0 (F := F) t0_0 = bodyP (win0_0.stage (cfg0.slots t0_0 0)) (win0_1.stage (cfg0.slots t0_0 1)) (win0_2.stage (cfg0.slots t0_0 2))
    (win0_3.stage (cfg0.slots t0_0 3)) (comm false) (comm_whole false) (comm true) (comm_whole true) (sndS false) (rcvS false) (sndS true) (rcvS true) :=
  body_eq _ (hstage0_0 0) _ (hstage0_1 0) _ (hstage0_2 0) _ (hstage0_3 0) (Memref.whole cc0_scratch0) (Memref.isWhole_whole _) (Memref.whole cc0_scratch1)
    (Memref.isWhole_whole _) cc0_scratch2 cc0_scratch3 cc0_scratch4 cc0_scratch5

theorem run_at : bodyPre m c ⊢ W c (bodyAt0 (F := F) t0_0) (fun _ => bodyPost m c) :=
  (run_body m c).trans (Entails.of_eq (congrArg (fun p => W c p fun _ => bodyPost m c) (body_at (F := F)).symm))

theorem body_obligation : BodyObligation (dats (F := F) m 0 c) (defs₀ (F := F)) 𝒱₀ () Set.univ := fun t => by
  rw [fin_N0 t]
  rw [bigSep_W0, bigSep_W0]
  have e : (defs₀ (F := F)) .tc cfg0.body (cfg0.bodyArgs t0_0 (cfg0.slots t0_0)) = bodyAt0 (F := F) t0_0 := by
    unfold defs₀; rw [Defs.onTc_tc]
  rw [e]
  have h := run_at m c
  generalize bodyAt0 (F := F) t0_0 = p at h ⊢
  exact h

end Cert.Proof

end
-- ==== Proof.Entry.lean ====
/-
  The region entered and left: the launch deals every device its rights and tokens, the region's entry opens the 240
  cells whose counters the device owns, and the exit gives the counters back at zero and the buffers whole.
-/
module

public import proofs.«01_k».proof.Proof.Region

@[expose] public section

set_option maxRecDepth 4000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The kernel's own semaphores -/

/-- The kernel's own semaphores: the send (`false`) or receive (`true`) semaphore of a direction and a block. -/
def osem (x : Bool × Bool × Fin 60) : SemLoc sig := .dma (if x.1 then rIx x.2.1 x.2.2 else sIx x.2.1 x.2.2)

theorem kCell_eq (c : Dev nD) (x : Bool × Bool × Fin 60) : kCell (c, x) = ((c : Thread nD τ), osem x) := by
  rcases x with ⟨_ | _, d, k⟩ <;> rfl

theorem osem_inj : Function.Injective osem := fun x y h => by
  have h' : kCell (0, x) = kCell (0, y) := by rw [kCell_eq, kCell_eq, h]
  exact (Prod.mk.inj (kCell_inj h')).2

theorem ownSemFacts : Pipeline.OwnSemFacts spec0 osem where
  isScoped := by decide
  inj := osem_inj
  disj := by
    have h : ∀ (x : Bool × Bool × Fin 60), 4 ≤ (if x.1 then rIx x.2.1 x.2.2 else sIx x.2.1 x.2.2 : DmaSem sig).val := by
      rintro ⟨_ | _, d, k⟩
      · show 4 ≤ 4 + 120 * d.toNat + k.val % 60; omega
      · show 4 ≤ 64 + 120 * d.toNat + k.val % 60; omega
    have h' : ∀ (w : Fin 4) (s : Fin (spec0 w).nbuf), ((spec0 w).sem s).val < 4 := by decide
    intro x w s e
    have e' : (if x.1 then rIx x.2.1 x.2.2 else sIx x.2.1 x.2.2 : DmaSem sig) = (spec0 w).sem s := SemLoc.dma.inj e
    have h1 := h x
    rw [e'] at h1
    exact absurd (h' w s) (by omega)

/-- A family over the kernel's own semaphores, kind by kind and direction by direction. -/
theorem bigSep_own (A : Bool → Bool → ℕ → sProp 𝕄) :
    bigSep Finset.univ (fun x : Bool × Bool × Fin 60 => A x.1 x.2.1 x.2.2.val)
      = iprop((bigSep (Finset.Ico 0 60) (A false false) ∗ bigSep (Finset.Ico 0 60) (A false true))
        ∗ (bigSep (Finset.Ico 0 60) (A true false) ∗ bigSep (Finset.Ico 0 60) (A true true))) := by
  rw [bigSep_univ_prod, bigSep_bool]
  dsimp only
  rw [bigSep_univ_prod, bigSep_univ_prod, bigSep_bool, bigSep_bool]
  dsimp only
  rw [bigSep_fin (A false false), bigSep_fin (A false true), bigSep_fin (A true false), bigSep_fin (A true true)]

theorem ownSems_eq (c : Dev nD) :
    (Pipeline.ownSems0 osem c : sProp 𝕄)
      = iprop((bigSep (Finset.Ico 0 60) (zS c false) ∗ bigSep (Finset.Ico 0 60) (zS c true))
        ∗ (bigSep (Finset.Ico 0 60) (zR c false) ∗ bigSep (Finset.Ico 0 60) (zR c true))) := by
  unfold Pipeline.ownSems0
  refine Eq.trans (bigSep_congr fun x _ => ?_) (bigSep_own (fun r d k => cond r (zR c d k) (zS c d k)))
  rcases x with ⟨_ | _, d, k⟩ <;> rfl

/-! ## Opening the cells -/

section Open

variable (P : Dev nD → Bool → ℕ → FVec F S128x1024 .f32) (κ : GSem nD τ sig → ℕ) (c : Dev nD) (d : Bool)

/-- What the launch deals a device of a direction: the rights to open its cells, the tokens of the duties it pays and
    the credit of its landings. -/
def Tok : sProp 𝕄 :=
  iprop((bigSep (Finset.Ico 0 60) fun k => openTok (ER F) (sendC c d k)) ∗ (bigSep (Finset.Ico 0 60) fun k => openTok (ER F) (recvC c d k))
    ∗ (bigSep (Finset.Ico 0 60) fun k => dutyTok (ER F) (sendC c d k) 0 false) ∗ (bigSep (Finset.Ico 0 60) fun k => dutyTok (ER F) (recvC (nb d c) d k) 0 false)
    ∗ bigSep (Finset.Ico 0 60) fun k => cred (tallyAt (recvC c d k) () N))

/-- A family of cells opened. -/
theorem open_cells (g : ℕ → GSem nD τ sig) (hg : ∀ k < 60, g k ∈ barCells ∪ dmaCells) :
    iprop(Ctx P κ ∗ (bigSep (Finset.Ico 0 60) fun k => openTok (ER F) (g k)) ∗ bigSep (Finset.Ico 0 60) fun k => semVal (g k) 0)
      ⊢ |={Set.univ}=> iprop((bigSep (Finset.Ico 0 60) fun k => atPos (ER F) (g k) 0 ∅ 0) ∗ bigSep (Finset.Ico 0 60) fun k => reached (ER F) (g k) 0) := by
  rw [← bigSep_sep', ← bigSep_sep']
  refine (bigSep_with_persistent (R := Ctx P κ) (Φ := fun k => iprop(openTok (ER F) (g k) ∗ semVal (g k) 0))
    (Ψ := fun k => iprop(|={Set.univ}=> (atPos (ER F) (g k) 0 ∅ 0 ∗ reached (ER F) (g k) 0))) fun k hk => ?_).trans (bigSep_fupd _ _)
  have hk := hg k (Finset.mem_Ico.mp hk).2
  iintro ⟨#HC, Ho, Hs⟩
  ihave #HI := (inv_at P κ hk) $$ HC
  imod (Rounds.cell_open (ER F) (rd P) (g := g k) (Set.mem_univ (κ (g k)))) $$ [Ho Hs] with ⟨Hat, #Hr⟩
  · isplitr; · iexact HI
    isplitl [Ho] <;> iassumption
  imodintro
  isplitl [Hat]; · iexact Hat
  iexact Hr

/-- The receive cells are open. -/
def Rch : sProp 𝕄 := bigSep (Finset.Ico 0 60) fun k => reached (ER F) (recvC c d k) 0

theorem open_dir : iprop(Ctx P κ ∗ Tok c d ∗ bigSep (Finset.Ico 0 60) (zS c d) ∗ bigSep (Finset.Ico 0 60) (zR c d)) ⊢ |={Set.univ}=> iprop(Dir c d ∗ Rch c d) := by
  unfold Tok
  iintro ⟨#HC, ⟨HoS, HoR, HtS, HtR, Hcr⟩, HzS, HzR⟩
  imod (open_cells P κ (fun k => sendC c d k) (fun k hk => send_mem c d hk)) $$ [HoS HzS] with ⟨HaS, HrS⟩
  · isplitr; · iexact HC
    isplitl [HoS]; · iexact HoS
    iexact HzS
  imod (open_cells P κ (fun k => recvC c d k) (fun k hk => recv_mem c d hk)) $$ [HoR HzR] with ⟨HaR, HrR⟩
  · isplitr; · iexact HC
    isplitl [HoR]; · iexact HoR
    iexact HzR
  imodintro
  isplitr [HrR]
  · unfold Dir hT hA hB
    rw [bigSep_sep', bigSep_sep', bigSep_sep']
    isplitl [HtS HtR HrS]
    · isplitl [HtR]; · iexact HtR
      isplitl [HtS]; · iexact HtS
      iexact HrS
    isplitl [HaR Hcr]
    · isplitl [HaR]; · iexact HaR
      iexact Hcr
    iexact HaS
  unfold Rch
  iexact HrR

end Open

/-! ## In and out -/

variable (m : (ℓ : Loc nD τ sig) → Buf (Elt F) ℓ) (c : Dev nD)

/-- What the launch keeps for the region. -/
def Tk : sProp 𝕄 := iprop((∃ κ, Ctx (sh m) κ ∗ Bar c) ∗ Tok c false ∗ Tok c true)
/-- The same with the cells open. -/
def Xk : sProp 𝕄 := iprop((∃ κ, Ctx (sh m) κ) ∗ Bar c ∗ (Dir c false ∗ Dir c true) ∗ (Rch c false ∗ Rch c true))
/-- What the region leaves. -/
def Yk : sProp 𝕄 := semVal (barC c) 0

theorem hopen : iprop(Tk m c ∗ Pipeline.ownSems0 osem c ∗ levAts L lv) ⊢ (|={Set.univ}=> Xk m c : sProp 𝕄) := by
  rw [ownSems_eq]
  unfold Tk Xk
  iintro ⟨⟨⟨%κ, #HC, HB⟩, Tf, Tt⟩, ⟨⟨Sf, St⟩, Rf, Rt⟩, -⟩
  imod (open_dir (sh m) κ c false) $$ [Tf Sf Rf] with ⟨Df, Hf⟩
  · isplitr; · iexact HC
    isplitl [Tf]; · iexact Tf
    isplitl [Sf] <;> iassumption
  imod (open_dir (sh m) κ c true) $$ [Tt St Rt] with ⟨Dt, Ht⟩
  · isplitr; · iexact HC
    isplitl [Tt]; · iexact Tt
    isplitl [St] <;> iassumption
  imodintro
  isplitr; · iexists κ; iexact HC
  isplitl [HB]; · iexact HB
  isplitl [Df Dt]
  · isplitl [Df] <;> iassumption
  isplitl [Hf] <;> iassumption

/-- The buffer's slots: the first four, and those that landings go to, with the receive cells open. -/
theorem slots_deal (d : Bool) : iprop(bigSep (Finset.Ico 0 64) (anySlot (F := F) c d) ∗ Rch c d) ⊢ iprop(Ini c d 0 ∗ gifts c d) := by
  rw [bigSep_run (a := 0) (b := 4) (n := 64) (by decide) (by decide)]
  unfold Rch Ini gifts gift
  rw [bigSep_sep', bigSep_shift 0 60 4 (anySlot (F := F) c d)]
  iintro ⟨⟨H1, H2⟩, H3⟩
  isplitl [H1]; · iexact H1
  isplitl [H2]; · iexact H2
  iexact H3

theorem slots_back (d : Bool) : iprop(St c d 60 60 60 ∗ Fin' c d 4)
    ⊢ iprop(bigSep (Finset.Ico 0 64) (anySlot (F := F) c d) ∗ bigSep (Finset.Ico 0 60) (zS c d) ∗ bigSep (Finset.Ico 0 60) (zR c d)) := by
  rw [bigSep_run (a := 0) (b := 60) (n := 64) (by decide) (by decide)]
  unfold St Fin'
  iintro ⟨⟨-, -, -, -, -, HR, HS, H1⟩, H2⟩
  isplitl [H1 H2]
  · isplitl [H1] <;> iassumption
  isplitl [HS] <;> iassumption

theorem scratch_in : (Pipeline.scopedRest spec0 c : sProp 𝕄) ⊢ iprop(bigSep (Finset.Ico 0 64) (anySlot c false) ∗ bigSep (Finset.Ico 0 64) (anySlot c true)) := by
  rw [scopedRest0_eq]
  iintro ⟨⟨%f, Hf⟩, ⟨%g, Hg⟩⟩
  isplitl [Hf]
  · iapply (slots_split c false f); iexact Hf
  · iapply (slots_split c true g); iexact Hg

theorem scratch_out : iprop(bigSep (Finset.Ico 0 64) (anySlot c false) ∗ bigSep (Finset.Ico 0 64) (anySlot c true)) ⊢ (Pipeline.scopedRest spec0 c : sProp 𝕄) := by
  rw [scopedRest0_eq]
  exact BI.sep_mono (slots_join c false) (slots_join c true)

theorem hin : iprop(Pipeline.scopedRest spec0 c ∗ (∃ r, prngReg c r) ∗ StableHlo.held (c.tc : Thread nD τ) ∅ (V9 m c) ∗ Xk m c) ⊢ Start m c := by
  unfold Xk Start
  iintro ⟨Hs, Hp, -, HC, HB, HD, ⟨Hf, Ht⟩⟩
  ihave Hs := (scratch_in c) $$ Hs
  icases Hs with ⟨Sf, St⟩
  ihave Hf := (slots_deal c false) $$ [Sf Hf]
  · isplitl [Sf] <;> iassumption
  ihave Ht := (slots_deal c true) $$ [St Ht]
  · isplitl [St] <;> iassumption
  icases Hf with ⟨If, Gf⟩
  icases Ht with ⟨It, Gt⟩
  isplitl [HC]; · iexact HC
  isplitl [HB]; · iexact HB
  isplitl [HD]; · iexact HD
  isplitl [Gf Gt]
  · isplitl [Gf] <;> iassumption
  isplitl [If It]
  · isplitl [If] <;> iassumption
  iexact Hp

theorem hout (V : Valuation τ sig (Elt F)) :
    End c ⊢ iprop(Pipeline.scopedRest spec0 c ∗ (∃ r, prngReg c r) ∗ StableHlo.held (c.tc : Thread nD τ) ∅ V ∗ Pipeline.ownSems0 osem c ∗ Yk c) := by
  rw [ownSems_eq]
  unfold End Yk StableHlo.held
  rw [bigSep_empty]
  iintro ⟨Hb, ⟨Sf, St⟩, ⟨Ff, Ft⟩, Hp⟩
  ihave Hf := (slots_back c false) $$ [Sf Ff]
  · isplitl [Sf] <;> iassumption
  ihave Ht := (slots_back c true) $$ [St Ft]
  · isplitl [St] <;> iassumption
  icases Hf with ⟨Af, ZSf, ZRf⟩
  icases Ht with ⟨At, ZSt, ZRt⟩
  isplitl [Af At]
  · iapply (scratch_out c)
    isplitl [Af] <;> iassumption
  isplitl [Hp]; · iexact Hp
  isplitr; · iempintro
  isplitr [Hb]
  · isplitl [ZSf ZSt]
    · isplitl [ZSf] <;> iassumption
    isplitl [ZRf] <;> iassumption
  iexact Hb

end Cert.Proof

end
-- ==== Proof.Deal.lean ====
/-
  The launch: the invariants of every cell allocated, and the positions, the rights to open, the tokens and the credit dealt
  to the devices, the tokens of a duty to the device that pays it.
-/
module

public import proofs.«01_k».proof.Proof.Entry
public import proofs.«01_k».proof.Proof.Gen.KernelIdeal.Regions

@[expose] public section

set_option maxRecDepth 4000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The tokens -/

def barTokEmb : (Dev nD × Bool) ↪ GSem nD τ sig × ℕ × Bool :=
  ⟨fun x => (barC x.1, 0, x.2), fun x y h => Prod.ext (barEmb.injective (congrArg (fun t : GSem nD τ sig × ℕ × Bool => t.1) h))
    (congrArg (fun t : GSem nD τ sig × ℕ × Bool => t.2.2) h)⟩
def dmaTokEmb : (Dev nD × Bool × Bool × Fin 60) ↪ GSem nD τ sig × ℕ × Bool :=
  ⟨fun x => (kCell x, 0, false), fun x y h => kCell_inj (congrArg (fun t : GSem nD τ sig × ℕ × Bool => t.1) h)⟩

/-- The two duties of every barrier cell and the one of every copy's cell. -/
def toks : Finset (GSem nD τ sig × ℕ × Bool) := Finset.univ.map barTokEmb ∪ Finset.univ.map dmaTokEmb

theorem toks_disjoint : Disjoint (Finset.univ.map barTokEmb) (Finset.univ.map dmaTokEmb) := by
  rw [Finset.disjoint_left]
  intro t h h'
  obtain ⟨x, -, rfl⟩ := Finset.mem_map.mp h
  obtain ⟨y, -, hy⟩ := Finset.mem_map.mp h'
  exact Finset.disjoint_left.mp disjoint_cells (Finset.mem_map_of_mem barEmb (Finset.mem_univ x.1))
    (Finset.mem_map.mpr ⟨y, Finset.mem_univ _, congrArg (fun t : GSem nD τ sig × ℕ × Bool => t.1) hy⟩)

/-- The launch element: the pipeline's own and the protocol's. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- A resource given to one device of the mesh. -/
def onDev (c₀ : Dev nD) (X : sProp 𝕄) (c : Dev nD) : sProp 𝕄 := if c = c₀ then X else iprop(emp)

theorem bigSep_onDev (c₀ : Dev nD) (X : sProp 𝕄) : bigSep Finset.univ (onDev c₀ X) = X := by
  have h : bigSep (Finset.univ.erase c₀) (onDev c₀ X) = (BI.emp : sProp 𝕄) :=
    (bigSep_congr fun c hc => by unfold onDev; exact if_neg (Finset.ne_of_mem_erase hc)).trans (BI.bigSep_emp_const _)
  rw [bigSep_univ_at _ c₀, h]
  unfold onDev
  rw [if_pos rfl]
  exact BI.equiv_iff.mp sep_emp

/-- The protocol's launch element, kept by device 0 until it is dealt. -/
def G : Dev nD → sProp 𝕄 := onDev 0 (BI.own ((ER F) (launchOf barCells dmaCells toks)))

theorem launch_split : (ownU (u₀ (F := F)) : sProp 𝕄) ⊢ |={Set.univ}=> iprop(
    BI.own ((EP F) (initOf (Pipeline.cells (Pipeline.pin (pcfgs (F := F)) adm) cellOf_inj) (Pipeline.launchToks (Pipeline.pin (pcfgs (F := F)) adm) cellOf_inj)))
      ∗ bigSep Finset.univ (G (F := F))) := by
  unfold u₀ G
  iintro Hu
  ihave H := (ownU_pair _ _) $$ Hu
  icases H with ⟨HP, HX⟩
  imodintro
  isplitl [HP]; · iexact HP
  rw [bigSep_onDev]
  iexact HX

/-! ## The families by device -/

/-- A family over the copies' cells, device by device. -/
theorem bigSep_dma (A : Dev nD → Bool → Bool → ℕ → sProp 𝕄) :
    bigSep Finset.univ (fun x : Dev nD × Bool × Bool × Fin 60 => A x.1 x.2.1 x.2.2.1 x.2.2.2.val)
      = bigSep Finset.univ fun c : Dev nD => iprop((bigSep (Finset.Ico 0 60) (A c false false) ∗ bigSep (Finset.Ico 0 60) (A c false true))
        ∗ (bigSep (Finset.Ico 0 60) (A c true false) ∗ bigSep (Finset.Ico 0 60) (A c true true))) := by
  rw [bigSep_univ_prod]
  exact bigSep_congr fun c _ => bigSep_own (A c)

/-- A family of one direction's receive cells, moved to the senders. -/
theorem bigSep_around (d : Bool) (A : Dev nD → sProp 𝕄) : bigSep Finset.univ A = bigSep Finset.univ fun c => A (nb d c) :=
  bigSep_univ_equiv ⟨nb d, nb (!d), nb_back d, nb_forth d⟩ A

theorem kCell_cond (c : Dev nD) (r d : Bool) (k : Fin 60) : kCell (c, r, d, k) = cond r (recvC c d k) (sendC c d k) := by cases r <;> rfl

/-- The rights to open, by device. -/
theorem open_eq : bigSep dmaCells (fun g => (openTok (ER F) g : sProp 𝕄)) = bigSep Finset.univ fun c : Dev nD =>
    iprop(((bigSep (Finset.Ico 0 60) fun k => openTok (ER F) (sendC c false k)) ∗ (bigSep (Finset.Ico 0 60) fun k => openTok (ER F) (sendC c true k)))
      ∗ ((bigSep (Finset.Ico 0 60) fun k => openTok (ER F) (recvC c false k)) ∗ (bigSep (Finset.Ico 0 60) fun k => openTok (ER F) (recvC c true k)))) := by
  unfold dmaCells
  rw [bigSep_map]
  refine Eq.trans (bigSep_congr fun x _ => ?_) (bigSep_dma (fun c r d k => openTok (ER F) (cond r (recvC c d k) (sendC c d k))))
  exact congrArg _ (kCell_cond x.1 x.2.1 x.2.2.1 x.2.2.2)

/-- The copies' tokens, by device: a send token stays and a receive token goes to the sender. -/
theorem dmaTok_eq : bigSep (Finset.univ.map dmaTokEmb) (fun x => (dutyTok (ER F) x.1 x.2.1 x.2.2 : sProp 𝕄)) = bigSep Finset.univ fun c : Dev nD =>
    iprop(((bigSep (Finset.Ico 0 60) fun k => dutyTok (ER F) (sendC c false k) 0 false) ∗ (bigSep (Finset.Ico 0 60) fun k => dutyTok (ER F) (sendC c true k) 0 false))
      ∗ ((bigSep (Finset.Ico 0 60) fun k => dutyTok (ER F) (recvC (nb false c) false k) 0 false)
        ∗ (bigSep (Finset.Ico 0 60) fun k => dutyTok (ER F) (recvC (nb true c) true k) 0 false))) := by
  rw [bigSep_map]
  refine Eq.trans (Eq.trans (bigSep_congr fun x _ => ?_) (bigSep_dma (fun c r d k => dutyTok (ER F) (cond r (recvC c d k) (sendC c d k)) 0 false))) ?_
  · exact congrArg (fun g => (dutyTok (ER F) g 0 false : sProp 𝕄)) (kCell_cond x.1 x.2.1 x.2.2.1 x.2.2.2)
  · simp only [cond_true, cond_false]
    rw [bigSep_sep', bigSep_sep', bigSep_sep', bigSep_sep', bigSep_sep', bigSep_sep']
    rw [bigSep_around false (fun c => bigSep (Finset.Ico 0 60) fun k => (dutyTok (ER F) (recvC c false k) 0 false : sProp 𝕄)),
      bigSep_around true (fun c => bigSep (Finset.Ico 0 60) fun k => (dutyTok (ER F) (recvC c true k) 0 false : sProp 𝕄))]

/-- The barriers' tokens, each to the neighbour that pays. -/
theorem barTok_eq : bigSep (Finset.univ.map barTokEmb) (fun x => (dutyTok (ER F) x.1 x.2.1 x.2.2 : sProp 𝕄)) = bigSep Finset.univ fun c : Dev nD =>
    iprop(dutyTok (ER F) (barC (nb true c)) 0 false ∗ dutyTok (ER F) (barC (nb false c)) 0 true) := by
  rw [bigSep_map, bigSep_univ_prod]
  refine (bigSep_congr fun c _ => bigSep_bool (fun d => (dutyTok (ER F) (barC c) 0 d : sProp 𝕄))).trans ?_
  rw [bigSep_sep', bigSep_sep', bigSep_around true (fun c => (dutyTok (ER F) (barC c) 0 false : sProp 𝕄)),
    bigSep_around false (fun c => (dutyTok (ER F) (barC c) 0 true : sProp 𝕄))]

/-! ## The launch credit -/

theorem bar_ne_recv (c c' : Dev nD) (d : Bool) (k : ℕ) : barC c ≠ recvC c' d k := fun h => by cases (Prod.mk.inj h).2

theorem recvC_eq_iff {c c' : Dev nD} {d d' : Bool} {k k' : ℕ} (hk : k < 60) (hk' : k' < 60) :
    recvC c d k = recvC c' d' k' ↔ c = c' ∧ d = d' ∧ k = k' := by
  constructor
  · intro h
    have h' := kCell_inj (show kCell (c, true, d, ⟨k, hk⟩) = kCell (c', true, d', ⟨k', hk'⟩) from h)
    obtain ⟨h1, h2⟩ := Prod.mk.inj h'
    obtain ⟨-, h3⟩ := Prod.mk.inj h2
    obtain ⟨h4, h5⟩ := Prod.mk.inj h3
    exact ⟨h1, h4, congrArg Fin.val h5⟩
  · rintro ⟨rfl, rfl, rfl⟩; rfl

theorem nb_eq_iff (d : Bool) (e c : Dev nD) : c = nb d e ↔ e = nb (!d) c :=
  ⟨fun h => by rw [h, nb_back], fun h => by rw [h, nb_forth]⟩

theorem barC_eq_iff (c c' : Dev nD) : barC c = barC c' ↔ c = c' := ⟨fun h => barEmb.injective h, fun h => h ▸ rfl⟩

/-- A tally at a sum of cells, read at one cell. -/
theorem sum_at (s : Finset ℕ) (f : ℕ → CellTallies nD τ sig Unit) (g : GSem nD τ sig) : (∑ k ∈ s, f k) g () = ∑ k ∈ s, f k g () := by
  induction s using Finset.induction_on with
  | empty => rfl
  | insert a s ha ih => rw [Finset.sum_insert ha, Finset.sum_insert ha, ← ih]; rfl

theorem dueD_recv (e c : Dev nD) (d d' : Bool) {k : ℕ} (hk : k < 60) :
    dueD e d' 0 (recvC c d k) () = if d' = d ∧ e = nb (!d) c then N else 0 := by
  unfold dueD
  rw [sum_at, Finset.sum_eq_single k]
  · rw [tallyAt_apply]
    refine if_congr ?_ rfl rfl
    rw [recvC_eq_iff hk hk]
    constructor
    · rintro ⟨⟨h1, rfl, -⟩, -⟩
      exact ⟨rfl, (nb_eq_iff d e c).mp h1⟩
    · rintro ⟨rfl, h⟩
      exact ⟨⟨(nb_eq_iff _ e c).mpr h, rfl, rfl⟩, rfl⟩
  · intro k' hk' hne
    rw [tallyAt_apply]
    exact if_neg fun h => hne ((recvC_eq_iff hk (Finset.mem_Ico.mp hk').2).mp h.1).2.2.symm
  · exact fun h => absurd (Finset.mem_Ico.mpr ⟨Nat.zero_le _, hk⟩) h

theorem dueD_bar (e c : Dev nD) (d : Bool) : dueD e d 0 (barC c) () = 0 := by
  unfold dueD
  rw [sum_at]
  exact Finset.sum_eq_zero fun k _ => by rw [tallyAt_apply]; exact if_neg fun h => bar_ne_recv _ _ _ _ h.1

theorem O₀_apply (e : Dev nD) (g : GSem nD τ sig) :
    O₀ e g () = dueD e false 0 g () + dueD e true 0 g () + tallyAt (barC (nb false e)) () 1 g () + tallyAt (barC (nb true e)) () 1 g () := rfl

theorem owed_bar (e c : Dev nD) : O₀ e (barC c) () = (if e = nb true c then 1 else 0) + if e = nb false c then 1 else 0 := by
  rw [O₀_apply, dueD_bar, dueD_bar, tallyAt_apply, tallyAt_apply, zero_add, zero_add]
  refine congrArg₂ _ (if_congr ?_ rfl rfl) (if_congr ?_ rfl rfl)
  · rw [barC_eq_iff, nb_eq_iff]; exact and_iff_left rfl
  · rw [barC_eq_iff, nb_eq_iff]; exact and_iff_left rfl

theorem owed_recv (e c : Dev nD) (d : Bool) {k : ℕ} (hk : k < 60) : O₀ e (recvC c d k) () = if e = nb (!d) c then N else 0 := by
  rw [O₀_apply, dueD_recv e c d false hk, dueD_recv e c d true hk, tallyAt_apply, tallyAt_apply,
    if_neg (c := recvC c d k = barC (nb false e) ∧ () = ()) fun h => bar_ne_recv _ _ _ _ h.1.symm,
    if_neg (c := recvC c d k = barC (nb true e) ∧ () = ()) fun h => bar_ne_recv _ _ _ _ h.1.symm]
  cases d
  · rw [if_neg (c := true = false ∧ _) (fun h => by cases h.1)]
    exact if_congr (and_iff_right rfl) rfl rfl
  · rw [if_neg (c := false = true ∧ _) (fun h => by cases h.1), add_zero, add_zero, zero_add]
    exact if_congr (and_iff_right rfl) rfl rfl

theorem launch_bar (c : Dev nD) : tallyOn (barC c) (launchCredit (Pipeline.owing O₀) 0 (barC c)) = (tallyAt (barC c) () 2 : CellTallies nD τ sig Unit) := by
  unfold tallyAt
  refine congrArg _ (Finsupp.ext fun u => ?_)
  cases u
  rw [Pipeline.launchCredit_owing, Finsupp.single_eq_same, Finset.sum_congr rfl fun e _ => owed_bar e c, Finset.sum_add_distrib,
    Finset.sum_ite_eq' Finset.univ (nb true c) fun _ => 1, Finset.sum_ite_eq' Finset.univ (nb false c) fun _ => 1, if_pos (Finset.mem_univ _), if_pos (Finset.mem_univ _)]

theorem launch_recv (c : Dev nD) (d : Bool) {k : ℕ} (hk : k < 60) :
    tallyOn (recvC c d k) (launchCredit (Pipeline.owing O₀) 0 (recvC c d k)) = (tallyAt (recvC c d k) () N : CellTallies nD τ sig Unit) := by
  unfold tallyAt
  refine congrArg _ (Finsupp.ext fun u => ?_)
  cases u
  rw [Pipeline.launchCredit_owing, Finsupp.single_eq_same, Finset.sum_congr rfl fun e _ => owed_recv e c d hk,
    Finset.sum_ite_eq' Finset.univ (nb (!d) c) fun _ => N, if_pos (Finset.mem_univ _)]

/-- The kernel's receive semaphores. -/
def rcvEmb : (Bool × Fin 60) ↪ SemLoc sig := ⟨fun x => osem (true, x.1, x.2), fun _ _ h => (Prod.mk.inj (osem_inj h)).2⟩

theorem creds (c : Dev nD) : (Pipeline.launchCred O₀ c : sProp 𝕄) ⊢ iprop(cred (tallyAt (barC c) () 2)
    ∗ (bigSep (Finset.Ico 0 60) fun k => cred (tallyAt (recvC c false k) () N)) ∗ bigSep (Finset.Ico 0 60) fun k => cred (tallyAt (recvC c true k) () N)) := by
  have h : bigSep (Finset.univ.map rcvEmb) (fun sm : SemLoc sig => (cred (tallyOn ((c : Thread nD τ), sm) (launchCredit (Pipeline.owing O₀) 0 ((c : Thread nD τ), sm))) : sProp 𝕄))
      = iprop((bigSep (Finset.Ico 0 60) fun k => cred (tallyAt (recvC c false k) () N)) ∗ bigSep (Finset.Ico 0 60) fun k => cred (tallyAt (recvC c true k) () N)) := by
    rw [bigSep_map]
    refine (bigSep_congr (Ψ := fun x : Bool × Fin 60 => (cred (tallyAt (recvC c x.1 x.2.val) () N) : sProp 𝕄)) fun x _ => congrArg _ (launch_recv c x.1 x.2.isLt)).trans ?_
    rw [bigSep_univ_prod, bigSep_bool]
    dsimp only
    rw [bigSep_fin (fun k => (cred (tallyAt (recvC c false k) () N) : sProp 𝕄)), bigSep_fin (fun k => (cred (tallyAt (recvC c true k) () N) : sProp 𝕄))]
  unfold Pipeline.launchCred
  rw [bigSep_univ_at _ (SemLoc.reg barS), ← h]
  refine BI.sep_mono (Entails.of_eq (congrArg (fun x => (cred x : sProp 𝕄)) (launch_bar c))) (bigSep_subset fun sm hsm => ?_)
  obtain ⟨x, -, hx⟩ := Finset.mem_map.mp hsm
  refine Finset.mem_erase.mpr ⟨fun e => ?_, Finset.mem_univ _⟩
  cases (show osem (true, x.1, x.2) = SemLoc.reg barS from hx.trans e)

/-! ## Every device's share of the launch -/

variable (m : (ℓ : Loc nD τ sig) → Buf (Elt F) ℓ)

/-- The records that every device may consult. -/
def records (κ : GSem nD τ sig → ℕ) : sProp 𝕄 := iprop(Ctx (sh m) κ ∗ bigSep barCells fun g => reached (ER F) g 0)

instance records_persistent (κ : GSem nD τ sig → ℕ) : BI.Persistent (records m κ) := by unfold records; infer_instance

theorem reached_at (c : Dev nD) : (bigSep barCells fun g => (reached (ER F) g 0 : sProp 𝕄)) ⊢ reached (ER F) (barC c) 0 :=
  bigSep_elim (Finset.mem_map_of_mem barEmb (Finset.mem_univ c))

/-- A device's holdings that are its alone. -/
def mine (c : Dev nD) : sProp 𝕄 :=
  iprop(atPos (ER F) (barC c) 0 ∅ 0
    ∗ (((bigSep (Finset.Ico 0 60) fun k => openTok (ER F) (sendC c false k)) ∗ (bigSep (Finset.Ico 0 60) fun k => openTok (ER F) (sendC c true k)))
      ∗ ((bigSep (Finset.Ico 0 60) fun k => openTok (ER F) (recvC c false k)) ∗ (bigSep (Finset.Ico 0 60) fun k => openTok (ER F) (recvC c true k))))
    ∗ (dutyTok (ER F) (barC (nb true c)) 0 false ∗ dutyTok (ER F) (barC (nb false c)) 0 true)
    ∗ (((bigSep (Finset.Ico 0 60) fun k => dutyTok (ER F) (sendC c false k) 0 false) ∗ (bigSep (Finset.Ico 0 60) fun k => dutyTok (ER F) (sendC c true k) 0 false))
      ∗ ((bigSep (Finset.Ico 0 60) fun k => dutyTok (ER F) (recvC (nb false c) false k) 0 false)
        ∗ (bigSep (Finset.Ico 0 60) fun k => dutyTok (ER F) (recvC (nb true c) true k) 0 false))))

/-- A device's credit at launch. -/
def due (c : Dev nD) : sProp 𝕄 := iprop(cred (tallyAt (barC c) () 2)
    ∗ (bigSep (Finset.Ico 0 60) fun k => cred (tallyAt (recvC c false k) () N)) ∗ bigSep (Finset.Ico 0 60) fun k => cred (tallyAt (recvC c true k) () N))

theorem Tk_intro (κ : GSem nD τ sig → ℕ) (c : Dev nD) : iprop(records m κ ∗ (mine c ∗ due c)) ⊢ Tk m c := by
  unfold records mine due Tk Bar Tok
  iintro ⟨⟨#HC, #HR⟩, ⟨Hat, ⟨⟨OSf, OSt⟩, ORf, ORt⟩, ⟨TBf, TBt⟩, ⟨TSf, TSt⟩, TRf, TRt⟩, HcB, Hcf, Hct⟩
  isplitl [Hat TBf TBt HcB]
  · iexists κ
    isplitr; · iexact HC
    isplitl [Hat]; · iexact Hat
    isplitl [HcB]; · iexact HcB
    isplitl [TBf]
    · isplitl [TBf]; · iexact TBf
      iapply (reached_at (F := F) (nb true c)); iexact HR
    · isplitl [TBt]; · iexact TBt
      iapply (reached_at (F := F) (nb false c)); iexact HR
  isplitl [OSf ORf TSf TRf Hcf]
  · isplitl [OSf]; · iexact OSf
    isplitl [ORf]; · iexact ORf
    isplitl [TSf]; · iexact TSf
    isplitl [TRf]; · iexact TRf
    iexact Hcf
  · isplitl [OSt]; · iexact OSt
    isplitl [ORt]; · iexact ORt
    isplitl [TSt]; · iexact TSt
    isplitl [TRt]; · iexact TRt
    iexact Hct

theorem dma_scoped (i : DmaSem sig) : (SemLoc.dma i : SemLoc sig).isScoped .tc = true := by revert i; decide

/-- The barrier's semaphore is the only one that outlives the region. -/
theorem unscoped_eq (sm : SemLoc sig) (h : sm.isScoped .tc = false) : sm = .reg barS := by
  have hr : ∀ i : Fin 1, i = barS := by decide
  rcases sm with i | i
  · exact congrArg SemLoc.reg (hr i)
  · rw [dma_scoped] at h; cases h

theorem unscoped_bar : (SemLoc.reg barS : SemLoc sig).isScoped .tc = false := by decide

theorem unscopedSems_eq (c : Dev nD) : (unscopedSems0 c : sProp 𝕄) = semVal (barC c) 0 := by
  unfold unscopedSems0
  rw [show (Finset.univ.filter fun sm : SemLoc sig => ¬ sm.isScoped .tc = true) = {SemLoc.reg barS} from
    Finset.ext fun sm => by
      rw [Finset.mem_filter, Finset.mem_singleton]
      exact ⟨fun h => unscoped_eq sm (Bool.eq_false_iff.mpr h.2), fun h => ⟨Finset.mem_univ _, h ▸ Bool.eq_false_iff.mp unscoped_bar⟩⟩, bigSep_singleton]

variable (ρ : Dev nD → PrngReg)

/-- What a device has at the start of its program: its arrays, the region's tokens, its register and what it owes. -/
def E0 (c : Dev nD) : sProp 𝕄 := iprop(Tk m c ∗ (∃ r, prngReg c r) ∗ ∃ Wd, owes (c : Thread nD τ) (O₀ c) Wd)

/-- The rest of a device's share of the launch. -/
def other (c : Dev nD) : sProp 𝕄 :=
  iprop(StableHlo.held (c : Thread nD τ) (Pipeline.ucRefs τ sig) (V0 m c) ∗ (∃ r, prngReg c r) ∗ ∃ Wd, owes (c : Thread nD τ) (O₀ c) Wd)

theorem T0_intro (κ : GSem nD τ sig → ℕ) (c : Dev nD) : iprop(records m κ ∗ ((mine c ∗ due c) ∗ other m c))
    ⊢ iprop(StableHlo.held (c : Thread nD τ) (Pipeline.ucRefs τ sig) (V0 m c) ∗ E0 m c) := by
  unfold other E0
  iintro ⟨HR, HM, Hh, Hp, HO⟩
  isplitl [Hh]; · iexact Hh
  isplitl [HR HM]
  · iapply (Tk_intro m κ c)
    isplitl [HR] <;> iassumption
  isplitl [Hp] <;> iassumption

theorem bufs_held (c : Dev nD) : (unscopedBufs c (fun b => m ((c : Thread nD τ).loc b)) : sProp 𝕄)
    = StableHlo.held (c : Thread nD τ) (Pipeline.ucRefs τ sig) (V0 m c) := by
  rw [← Pipeline.unscopedBufs_held (Ix := Unit) (Name := ℕ) (U := UU) (Lvl := ℕ) c (V0 m c)]

theorem launch_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ iprop((other m c ∗ due c) ∗ (semVal (barC c) 0 ∗ G c) : sProp 𝕄) := by
  rw [bufs_held, unscopedSems_eq]
  unfold other due
  iintro ⟨Hh, Hs, HO, Hcr, Hp, HG⟩
  ihave Hc := (creds (F := F) c) $$ Hcr
  isplitl [Hh HO Hc Hp]
  · isplitl [Hh HO Hp]
    · isplitl [Hh]; · iexact Hh
      isplitl [Hp]; · iexists (ρ c); iexact Hp
      iexists ∅; iexact HO
    · iexact Hc
  isplitl [Hs] <;> iassumption

theorem bar_vals : bigSep Finset.univ (fun c : Dev nD => (semVal (barC c) 0 : sProp 𝕄)) = bigSep barCells (fun g => (semVal g 0 : sProp 𝕄)) :=
  (bigSep_map (s := Finset.univ) barEmb (Φ := fun g : GSem nD τ sig => (semVal g 0 : sProp 𝕄))).symm
theorem bar_ats : bigSep barCells (fun g => (atPos (ER F) g 0 ∅ 0 : sProp 𝕄)) = bigSep Finset.univ (fun c : Dev nD => (atPos (ER F) (barC c) 0 ∅ 0 : sProp 𝕄)) :=
  bigSep_map (s := Finset.univ) barEmb (Φ := fun g : GSem nD τ sig => (atPos (ER F) g 0 ∅ 0 : sProp 𝕄))

/-- Four families, device by device. -/
theorem zip4 (A B C D : Dev nD → sProp 𝕄) : iprop(bigSep Finset.univ A ∗ bigSep Finset.univ B ∗ bigSep Finset.univ C ∗ bigSep Finset.univ D)
    = bigSep Finset.univ fun c => iprop(A c ∗ B c ∗ C c ∗ D c) := by rw [bigSep_sep', bigSep_sep', bigSep_sep']

/-- What is dealt, by device. -/
theorem deal_eq : iprop(bigSep barCells (fun g => (atPos (ER F) g 0 ∅ 0 : sProp 𝕄)) ∗ bigSep dmaCells (fun g => (openTok (ER F) g : sProp 𝕄))
      ∗ bigSep toks (fun x => (dutyTok (ER F) x.1 x.2.1 x.2.2 : sProp 𝕄))) = bigSep Finset.univ (mine (F := F)) := by
  unfold toks
  rw [bigSep_union toks_disjoint, barTok_eq, dmaTok_eq, open_eq, bar_ats]
  exact zip4 _ _ _ _

/-- The launch, on every device at once. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ E0 m c)) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ (other m) ∗ bigSep Finset.univ (due (F := F))) ∗ (bigSep barCells (fun g => semVal g 0) ∗ BI.own ((ER F) (launchOf barCells dmaCells toks)))) : sProp 𝕄) := by
    rw [← bar_vals, ← bigSep_onDev (F := F) 0 (BI.own ((ER F) (launchOf barCells dmaCells toks))), ← bigSep_sep', ← bigSep_sep', ← bigSep_sep']
    exact bigSep_mono fun c _ => launch_core m ρ c
  iintro ⟨H, #HL⟩
  ihave H := h1 $$ H
  icases H with ⟨⟨Ho, Hd⟩, Hv, Hu⟩
  imod (Rounds.fund_launch (ER F) (rd (sh m)) disjoint_cells (fun g _ h => h) toks) $$ [Hv Hu] with ⟨%κ, -, #Hinv, #Hr, Hat, Hop, Htok⟩
  · isplitl [Hv] <;> iassumption
  imodintro
  iapply (bigSep_with_persistent (R := records m κ) (Φ := fun c => iprop((mine c ∗ due c) ∗ other m c)) fun c _ => T0_intro m κ c)
  isplitr
  · unfold records Ctx
    isplitr
    · isplitr; · iexact Hinv
      iexact HL
    iexact Hr
  rw [bigSep_sep', bigSep_sep', ← deal_eq]
  isplitr [Ho]
  · isplitr [Hd]
    · isplitl [Hat]; · iexact Hat
      isplitl [Hop]; · iexact Hop
      iexact Htok
    iexact Hd
  iexact Ho

end Cert.Proof

end
-- ==== Proof.Run.lean ====
/-
  The whole program run: the host's table, then the kernel's region on every device, ending with every device's result in its
  array, the arguments as launched and every semaphore at zero.
-/
module

public import proofs.«01_k».proof.Proof.Deal
public import Idealize.ShloMosaic.Lib.Pipeline.RegionTalk

@[expose] public section

set_option maxRecDepth 4000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg)

variable {F : FTy → Type} [FloatOps F]

local notation "𝕄" => MT nD τ sig Unit (Elt F) ℕ UU ℕ

variable (m : (ℓ : Loc nD τ sig) → Buf (Elt F) ℓ)

/-! ## The region's record -/

/-- The pipeline's own semaphores lie below everything that is owed. -/
theorem lv_stage (c : Dev nD) (w : Fin 4) (s : Fin (spec0 w).nbuf) : lv ((c : Thread nD τ), .dma ((spec0 w).sem s)) () = 0 := by
  have h : ∀ (w : Fin 4) (s : Fin (spec0 w).nbuf), role ((spec0 w).sem s) = none := by decide
  unfold lv
  dsimp only
  rw [h w s]

theorem O₀_above (c : Dev nD) : Above 0 (O₀ c) :=
  ((Due_above c (by decide) (by decide)).add (Above.tally (nb false c) (.reg barS) 1 Nat.one_pos)).add (Above.tally (nb true c) (.reg barS) 1 Nat.one_pos)

theorem owed_above (c : Dev nD) (t : Fin (cfg0.N + 1)) : Above 0 ((dats m 0 c).owed t) := by
  rcases t with ⟨_ | t, ht⟩
  · exact O₀_above c
  · exact Above.zero 0

/-- The buffers of a device that the region's windows do not address. -/
abbrev restRefs : Finset (DevRef τ sig) := Pipeline.ucRefs τ sig \ Pipeline.arrRefs (τ := τ) spec0

theorem after_rest (c : Dev nD) (b : DevRef τ sig) (h : b ∈ restRefs \ ∅) : V10 m (outsM m) c b = V9 m c b := by
  have hb : b ∉ Pipeline.arrRefs (τ := τ) spec0 := (Finset.mem_sdiff.mp (Finset.mem_sdiff.mp h).1).2
  refine Function.update_of_ne (fun e => hb ?_) _ _
  rw [e]
  exact Finset.mem_map.mpr ⟨main_v50, Finset.mem_image.mpr ⟨(3 : Fin 4), Finset.mem_univ _, rfl⟩, rfl⟩

theorem after_win (c : Dev nD) (w : Fin 4) : (dats m 0 c).arrAt w cfg0.N = V10 m (outsM m) c (Proc.devRef .tc (Pipeline.arrRef spec0 w)) := by
  match w with
  | ⟨0, _⟩ => exact (arr_in0 m c _).trans (V10_of m (outsM m) c main_v49 (by decide)).symm
  | ⟨1, _⟩ => exact (arr_in1 m c _).trans (V10_of m (outsM m) c main_arg0 (by decide)).symm
  | ⟨2, _⟩ => exact (arr_in2 m c _).trans (V10_of m (outsM m) c main_arg1 (by decide)).symm
  | ⟨3, _⟩ => exact (arr_end m c).trans ((outsM_eq m c 10).symm.trans (Function.update_self (Proc.devRef .tc main_v50) (outsM m 10 main_v50 c) (V9 m c)).symm)

set_option backward.isDefEq.respectTransparency.types false in
/-- The kernel's region. -/
def reg0 : RegionSeg (pcfgs (F := F)) adm (dats m) () defs₀ 𝒱₀ L lv 0 :=
  RegionSeg.ofTalk (pcfgs (F := F)) adm (dats m) () defs₀ 𝒱₀ L lv 0 osem ownSemFacts
    ∅ restRefs (Finset.empty_subset _) launch0.toP rfl (fun c => (body_obligation m c).loose)
    (fun _ => 0) O₀ (fun c => (zero_add (O₀ c)).symm) (fun _ => rfl) (fun _ => rfl) (fun c w => share_eq m c w)
    (V9 m) (V10 m (outsM m)) (fun c b hb => after_rest m c b hb)
    (Tk m) Yk (Xk m) Yk (hopen m) (hin m) (fun c => hout c _)
    (fun c => by iintro H; imodintro; iexact H)
    (fun _ => 0)
    ⟨fun c w s => by rw [L_tc]; exact Finset.mem_singleton_self _, fun c w s => (lv_stage c w s).le, fun c t g i h => owed_above m c t g i h⟩
    (fun _ => iprop(emp))
    (fun c w => rfl) (fun c w => after_win m c w)

/-- What a device keeps to the end. -/
def E1 (c : Dev nD) : sProp 𝕄 := iprop(semVal (barC c) 0 ∗ ∃ Wd, owes (c : Thread nD τ) (0 : CellTallies nD τ sig Unit) Wd)

def E : Fin 2 → Dev nD → sProp 𝕄 := fun | 0 => E0 m | 1 => E1

theorem arr_sub : Pipeline.arrRefs (τ := τ) spec0 ⊆ Pipeline.ucRefs τ sig := by decide

theorem reg0_pre (c : Dev nD) : iprop(StableHlo.held (c : Thread nD τ) (Pipeline.ucRefs τ sig) (V9 m c) ∗ E m 0 c) ⊢ (reg0 m).pre c := by
  show _ ⊢ iprop(StableHlo.held (c.tc : Thread nD τ) (Pipeline.arrRefs (τ := τ) spec0) (V9 m c) ∗ (∃ r, prngReg c r)
    ∗ (StableHlo.held (c.tc : Thread nD τ) restRefs (V9 m c) ∗ emp) ∗ Tk m c ∗ ∃ Wd, owes (c : Thread nD τ) (0 + O₀ c) Wd)
  rw [zero_add, StableHlo.held_sub_split (c.tc : Thread nD τ) arr_sub (V9 m c)]
  show iprop(_ ∗ E0 m c) ⊢ _
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c ⊢ iprop(StableHlo.held (c : Thread nD τ) (Pipeline.ucRefs τ sig) (V10 m (outsM m) c) ∗ E m 1 c) := by
  show iprop(StableHlo.held (c.tc : Thread nD τ) (Pipeline.arrRefs (τ := τ) spec0) (V10 m (outsM m) c) ∗ (∃ r, prngReg c r)
    ∗ (StableHlo.held (c.tc : Thread nD τ) restRefs (V10 m (outsM m) c) ∗ emp) ∗ Yk c ∗ ∃ Wd, owes (c : Thread nD τ) (0 : CellTallies nD τ sig Unit) Wd) ⊢ _
  rw [StableHlo.held_sub_split (c.tc : Thread nD τ) arr_sub (V10 m (outsM m) c)]
  show _ ⊢ iprop(_ ∗ E1 c)
  unfold E1 Yk
  iintro ⟨Ha, -, ⟨Hr, -⟩, Hb, HO⟩
  isplitl [Ha Hr]
  · isplitl [Ha] <;> iassumption
  isplitl [Hb] <;> iassumption

/-! ## The run -/

variable (ρ : Dev nD → PrngReg)

theorem last_state (c : Dev nD) : iprop(StableHlo.held (c : Thread nD τ) (Pipeline.ucRefs τ sig) (V10 m (outsM m) c) ∗ E m 1 c)
    ⊢ iprop((StableHlo.held (c : Thread nD τ) (Pipeline.ucRefs τ sig) (V10 m (outsM m) c) ∗ semVal (barC c) 0) ∗ ∃ Wd, owes (c : Thread nD τ) (0 : CellTallies nD τ sig Unit) Wd) := by
  show iprop(_ ∗ E1 c) ⊢ _
  unfold E1
  iintro ⟨Hh, Hb, HO⟩
  isplitl [Hh Hb]
  · isplitl [Hh] <;> iassumption
  iexact HO

/-- The end read off the last contents. -/
theorem read_end (c : Dev nD) (s' : Phys nD τ sig (Elt F)) :
    iprop((StableHlo.held (c : Thread nD τ) (Pipeline.ucRefs τ sig) (V10 m (outsM m) c) ∗ semVal (barC c) 0) ∗ SI s')
      ⊢ (|={Set.univ}=> iprop(⌜(s'.mem.mem ((c.tc : Thread nD τ).loc main_v50) = outB m c
        ∧ s'.mem.mem ((c.tc : Thread nD τ).loc main_arg0) = m ((c.tc : Thread nD τ).loc main_arg0)
        ∧ s'.mem.mem ((c.tc : Thread nD τ).loc main_arg1) = m ((c.tc : Thread nD τ).loc main_arg1)) ∧ s'.mem.sem (barC c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V10 m (outsM m) c) s') $$ [Hh HSI]
  · isplitl [Hh] <;> iassumption
  icases Hr with ⟨%h, HSI⟩
  imodintro
  isplitr
  · ipureintro
    exact ⟨⟨(h (Proc.devRef .tc main_v50) (Finset.mem_filter.mpr ⟨StableHlo.devRef_mem_tcRefs main_v50, by decide⟩)).trans
        ((Function.update_self (Proc.devRef .tc main_v50) (outsM m 10 main_v50 c) (V9 m c)).trans (outsM_eq m c 10)),
      (h (Proc.devRef .tc main_arg0) (Finset.mem_filter.mpr ⟨StableHlo.devRef_mem_tcRefs main_arg0, by decide⟩)).trans (V10_main_arg0 m (outsM m) c),
      (h (Proc.devRef .tc main_arg1) (Finset.mem_filter.mpr ⟨StableHlo.devRef_mem_tcRefs main_arg1, by decide⟩)).trans (V10_main_arg1 m (outsM m) c)⟩,
      by simpa using hb⟩
  · iexact HSI

set_option backward.isDefEq.respectTransparency.types false in
/-- From any memory with zero counters, every fair execution ends, with every device's result in its array, its arguments as
    launched and every counter at zero. -/
theorem run_main : θ_run (defs (F := F)) (onTc (τ := τ) (main (F := F))) ⟨m, fun _ => 0, ρ⟩ (fun r => (∀ c : Dev nD,
      r.2.mem ((c.tc : Thread nD τ).loc main_v50) = outB m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (dats m) () cellOf_inj (EP F) defs₀ 𝒱₀ L lv m ρ main
    (segs m 𝒱₀ L lv (E m) () (dats m) (reg0 m))
    (fun c Q => by
      rewrite [main_chain c, Seg.run_eq_chain,
        show (segs m 𝒱₀ L lv (E m) () (dats m) (reg0 m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) (u₀ (F := F)) launch_split
    (T₀ := fun c => iprop(StableHlo.held (c : Thread nD τ) (Pipeline.ucRefs τ sig) (V0 m c) ∗ E m 0 c))
    (Tₙ := fun c => iprop(StableHlo.held (c : Thread nD τ) (Pipeline.ucRefs τ sig) (V10 m (outsM m) c) ∗ semVal (barC c) 0))
    (hch := fun c => ⟨.rfl, .rfl, .rfl, .rfl, .rfl, .rfl, .rfl, .rfl, .rfl, reg0_pre m c, (reg0_post m c).trans (last_state m c)⟩)
    (hinit := launch m ρ)
    (QY := fun c s => (s.mem ((c.tc : Thread nD τ).loc main_v50) = outB m c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barC c) = 0)
    (hfin := fun c s' => read_end m c s')
    (hQ := fun s h hs => ⟨fun c => (h c).1, sem_eq_zero hs fun c sm hsm => by
      obtain rfl := unscoped_eq sm hsm
      exact (h c).2⟩)

end Cert.Proof

end
-- ==== Proof.Same.lean ====
/-
  The kernel's program and the idealized kernel's are the same text, so the run of the one is the run of the other.
-/
module

public import proofs.«01_k».proof.Proof.Run
public import proofs.«01_k».proof.Proof.Gen.Kernel
public import proofs.«01_k».proof.Defs

@[expose] public section

noncomputable section

namespace Cert.Proof

open Idealize.ShloMosaic Idealize.SL.Sem

section Same

variable {F : FTy → Type} [FloatOps F]

set_option maxRecDepth 65536
set_option maxHeartbeats 20000000

/-- The two tables of bodies are one. -/
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => exact rfl

theorem defs_same : Cert.Kernel.defs (F := F) = Cert.KernelIdeal.defs (F := F) :=
  congrArg (Pipeline.defs (Cert.KernelIdeal.pcfgs (F := F))) defs₀_same

/-- The host code's first part. -/
theorem part0_same : Cert.Kernel.main_part0 (F := F) = Cert.KernelIdeal.main_part0 (F := F) := by exact rfl

/-- The host code's second part. -/
theorem part1_same : Cert.Kernel.main_part1 (F := F) = Cert.KernelIdeal.main_part1 (F := F) := by exact rfl

theorem main_same : Cert.Kernel.main (F := F) = Cert.KernelIdeal.main (F := F) := by
  funext d
  unfold Cert.Kernel.main Cert.KernelIdeal.main
  rw [part0_same, part1_same]

end Same

set_option maxHeartbeats 2000000 in
/-- The kernel runs to the end, at the machine's float words. -/
theorem frame_kernel : Cert.quiescent_Kernel := fun m ρ _ => by
  have h := run_main (F := Bits) m ρ
  rw [← main_same, ← defs_same] at h
  exact (θ_run Cert.Kernel.defs _ _).mono (fun _ h => ⟨fun c => ⟨(h.1 c).2.1, (h.1 c).2.2⟩, h.2⟩) h

end Cert.Proof

end
-- ==== Proof.Value.lean ====
/-
  The value of the result over the extended reals.

  A hop's share is a sum of 128 products; what travels round the ring for chunk `c` gathers the shares of the sixteen
  devices, each device once, so the last device, `c` itself, holds the sum over all 2048 products: rows `128 * c` and on of the
  product of the whole arrays. The activation is the reference's up to the place of one bracket in a product.
-/
module

public import proofs.«01_k».proof.Proof.Region
public import Idealize.ShloMosaic.Lib.MatmulPlain
public import Idealize.ShloMosaic.Lib.StackMember
public import Idealize.ShloMosaic.Lib.Layout
public import Idealize.ShloMosaic.Lib.Pipeline.Value

@[expose] public section

set_option maxRecDepth 4000

noncomputable section

namespace Cert.Proof

open Cert.KernelIdeal Cert.KernelIdeal.Gen
open Idealize.ShloMosaic Idealize.SL.Sem
open Idealize.ShloMosaic.ValueIdx
open scoped BigOperators

/-! ## A share -/

section Share

variable (x : Vec Ideal S2048x128 .f32) (w : Vec Ideal S128x2048 .f32)

/-- Where an entry of a hop's chunk of `x` lies. -/
theorem xPart_at (c : Dev nD) (d : Bool) (t : Fin 16) (a k : Fin 128) :
    xPart x c d t (ix2 a k) = x (ix2 ⟨128 * (ch d c t).val + a.val, by have := (ch d c t).isLt; change _ < 16 at this; omega⟩ k) := by
  refine congrArg x (funext fun b => Fin.ext ?_)
  have h (b : Fin 2) := congrFun (off_chunk d c t) b
  match b with
  | ⟨0, _⟩ =>
    show k0_off1 (metaW c (chK d t)) 0 + 1 * a.val = 128 * (ch d c t).val + a.val
    rw [h 0, Nat.one_mul]; rfl
  | ⟨1, _⟩ =>
    show k0_off1 (metaW c (chK d t)) 1 + 1 * k.val = k.val
    rw [h 1, Nat.one_mul]; exact Nat.zero_add _

/-- Where an entry of a half of `w` lies. -/
theorem wPart_at (d : Bool) (k : Fin 128) (b : Fin 1024) :
    wPart w d (ix2 k b) = w (ix2 k ⟨colO d + b.val, by cases d <;> simp only [colO, if_true, if_false, Bool.false_eq_true] <;> omega⟩) := by
  refine congrArg w (funext fun e => Fin.ext ?_)
  match e with
  | ⟨0, _⟩ => show 0 + 1 * k.val = k.val; omega
  | ⟨1, _⟩ => show colO d + 1 * b.val = colO d + b.val; omega

/-- The product of a chunk and a half, entry by entry. -/
theorem prodV_at (x : Vec Ideal S128x128 .f32) (w : Vec Ideal S128x1024 .f32) (a : Fin 128) (b : Fin 1024) :
    prodV x w (ix2 a b) = ∑ k : Fin 128, x (ix2 a k) * w (ix2 k b) := by
  unfold prodV
  rw [shapeCast_self, shapeCast_self]
  refine (Ideal.matmul_plain_apply (φ₁ := .f32) (φ₂ := .f32) none x w (constant S128x1024 .f32 0x00000000#32) a b).trans ?_
  show Ideal.ofBits .f32 0x00000000#32 + _ = _
  rw [Ideal.ofBits_zero_f32, zero_add]

/-- A share's entries. -/
theorem shareAt_at (c : Dev nD) (d : Bool) (t : Fin 16) (a : Fin 128) (b : Fin 1024) :
    shareAt x w c d t (ix2 a b)
      = ∑ k : Fin 128, x (ix2 ⟨128 * (ch d c t).val + a.val, by have := (ch d c t).isLt; change _ < 16 at this; omega⟩ k)
          * w (ix2 k ⟨colO d + b.val, by cases d <;> simp only [colO, if_true, if_false, Bool.false_eq_true] <;> omega⟩) := by
  unfold shareAt
  rw [prodV_at]
  exact Finset.sum_congr rfl fun k _ => by rw [xPart_at, wPart_at]

end Share

/-! ## Round the ring -/

section Round

variable (P : Dev nD → Bool → ℕ → FVec Ideal S128x1024 .f32)

/-- An entry of a column block, as an entry of the share. -/
def inCut (j : ℕ) (hj : j < 4) (a : Fin 128) (b : Fin 256) : S128x1024.Idx := ix2 (n0 := 128) (n1 := 1024) a ⟨256 * j + b.val, by omega⟩

theorem cutV_at (p : FVec Ideal S128x1024 .f32) (j : ℕ) (hj : j < 4) (a : Fin 128) (b : Fin 256) :
    cutV p j hj (ix2 a b) = p (inCut j hj a b) := by
  refine congrArg p (funext fun e => Fin.ext ?_)
  match e with
  | ⟨0, _⟩ => exact Nat.zero_add _
  | ⟨1, _⟩ => rfl

/-- The device `n` places back in a direction. -/
def back (d : Bool) (n : ℕ) (c : Dev nD) : Dev nD := (nb (!d))^[n] c

theorem back_succ (d : Bool) (n : ℕ) (c : Dev nD) : back d n (nb (!d) c) = back d (n + 1) c := (Function.iterate_succ_apply _ n c).symm

/-- What is passed on at hop `t` is the sum of the shares of the last `t + 1` devices. -/
theorem sumV_at (d : Bool) (j : ℕ) (hj : j < 4) (a : Fin 128) (b : Fin 256) (t : ℕ) : ∀ c : Dev nD,
    sumV P d j hj t c (ix2 a b) = ∑ s ∈ Finset.range (t + 1), P (back d (t - s) c) d s (inCut j hj a b) := by
  induction t with
  | zero => intro c; rw [Finset.sum_range_one]; exact cutV_at _ j hj a b
  | succ t ih =>
    intro c
    show sumV P d j hj t (nb (!d) c) (ix2 a b) + cutV (P c d (t + 1)) j hj (ix2 a b) = _
    rw [ih, cutV_at, Finset.sum_range_succ _ (t + 1), Nat.sub_self]
    refine congrArg₂ (· + ·) (Finset.sum_congr rfl fun s hs => ?_) rfl
    rw [back_succ, Nat.succ_sub (Nat.lt_succ_iff.mp (Finset.mem_range.mp hs))]

/-- The sum before the activation. -/
theorem plusV_at (d : Bool) (j : ℕ) (hj : j < 4) (a : Fin 128) (b : Fin 256) (c : Dev nD) :
    plusV (P c d 15) j hj (sumV P d j hj 14 (nb (!d) c)) (ix2 a b) = ∑ s : Fin 16, P (back d (15 - s.val) c) d s.val (inCut j hj a b) :=
  (sumV_at P d j hj a b 15 c).trans (Finset.sum_range _)

theorem back_ch (d : Bool) (c : Dev nD) (s : Fin 16) : ch d (back d (15 - s.val) c) s = c := by revert d c s; decide

/-- Each device's share is added once. -/
theorem back_inj (d : Bool) (c : Dev nD) : Function.Injective fun s : Fin 16 => back d (15 - s.val) c := by
  have h : ∀ (d : Bool) (c : Dev nD) (s s' : Fin 16), back d (15 - s.val) c = back d (15 - s'.val) c → s = s' := by decide
  exact fun s s' e => h d c s s' e

theorem back_bij (d : Bool) (c : Dev nD) : Function.Bijective fun s : Fin 16 => back d (15 - s.val) c :=
  Finite.injective_iff_bijective.mp (back_inj d c)

end Round

/-! ## The whole product -/

/-- Sixteen blocks of columns, and of rows, make the whole array. -/
theorem tiles_cols : Layout.Tiles ⟨2, ![2048, 128]⟩ ⟨2, ![2048, 2048]⟩ 1 16 := by decide
theorem tiles_rows : Layout.Tiles ⟨2, ![128, 2048]⟩ ⟨2, ![2048, 2048]⟩ 0 16 := by decide

/-- The product of the whole arrays. -/
def whole (X W : (⟨2, ![2048, 2048]⟩ : Shape).Idx → EReal) (r n : Fin 2048) : EReal := ∑ k : Fin 2048, X (ix2 r k) * W (ix2 k n)

/-- A sum over 2048 terms in sixteen parts of 128. -/
theorem sum_parts (f : Fin 2048 → EReal) :
    ∑ c : Fin 16, ∑ k : Fin 128, f ⟨c.val * 128 + k.val, by omega⟩ = ∑ k : Fin 2048, f k := by
  rw [← Fintype.sum_prod_type' (f := fun (c : Fin 16) (k : Fin 128) => f ⟨c.val * 128 + k.val, by omega⟩)]
  refine Fintype.sum_equiv (finProdFinEquiv (m := 16) (n := 128)) _ _ fun y => congrArg f (Fin.ext ?_)
  show y.1.val * 128 + y.2.val = y.2.val + 128 * y.1.val
  omega

section Blocks

variable (X W : (⟨2, ![2048, 2048]⟩ : Shape).Idx → EReal)
  (x : Dev nD → Vec Ideal S2048x128 .f32) (w : Dev nD → Vec Ideal S128x2048 .f32)
  (hx : ∀ c, x c = Layout.block ⟨2, ![2048, 128]⟩ ⟨2, ![2048, 2048]⟩ 1 16 c X tiles_cols)
  (hw : ∀ c, w c = Layout.block ⟨2, ![128, 2048]⟩ ⟨2, ![2048, 2048]⟩ 0 16 c W tiles_rows)

include hx in
theorem x_at (c : Fin 16) (r : Fin 2048) (k : Fin 128) : x c (ix2 r k) = X (ix2 r ⟨c.val * 128 + k.val, by omega⟩) := by
  rw [hx]
  refine congrArg X (funext fun e => Fin.ext ?_)
  match e with
  | ⟨0, _⟩ => rfl
  | ⟨1, _⟩ => rfl

include hw in
theorem w_at (c : Fin 16) (k : Fin 128) (n : Fin 2048) : w c (ix2 k n) = W (ix2 ⟨c.val * 128 + k.val, by omega⟩ n) := by
  rw [hw]
  refine congrArg W (funext fun e => Fin.ext ?_)
  match e with
  | ⟨0, _⟩ => rfl
  | ⟨1, _⟩ => rfl

include hx hw in
/-- What a device holds before the activation is its rows of the whole product. -/
theorem total_at (d : Bool) (j : ℕ) (hj : j < 4) (a : Fin 128) (b : Fin 256) (c : Fin 16) :
    plusV (shares x w c d 15) j hj (sumV (shares x w) d j hj 14 (nb (!d) c)) (ix2 a b)
      = whole X W ⟨128 * c.val + a.val, by omega⟩
          ⟨colO d + (256 * j + b.val), by cases d <;> simp only [colO, if_true, if_false, Bool.false_eq_true] <;> omega⟩ := by
  rw [plusV_at]
  unfold whole
  rw [← sum_parts]
  refine Fintype.sum_bijective _ (back_bij d c) _ _ fun s => ?_
  show shareV (x (back d (15 - s.val) c)) (w (back d (15 - s.val) c)) (back d (15 - s.val) c) d s.val (inCut j hj a b) = _
  rw [shareV_eq _ _ _ _ s.isLt]
  refine (shareAt_at _ _ _ d s a _).trans (Finset.sum_congr rfl fun k _ => ?_)
  rw [x_at X x hx, w_at W w hw]
  refine congrArg₂ (· * ·) (congrArg X (congrArg (fun r => ix2 r _) (Fin.ext ?_))) rfl
  show 128 * (ch d (back d (15 - s.val) c) s).val + a.val = 128 * c.val + a.val
  rw [back_ch]

end Blocks

/-! ## The activation -/

/-- The activation of one number, as the reference writes it. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

theorem geluV_at (y : FVec Ideal S128x256 .f32) (i : S128x256.Idx) : geluV y i = gelu (y i) := by
  show Ideal.ofBits .f32 0x3F000000#32 * y i * (Ideal.ofBits .f32 0x3F800000#32
    + Ideal.tanh (Ideal.ofBits .f32 0x3F4C422A#32 * (y i + Ideal.ofBits .f32 0x3D372713#32 * y i * y i * y i))) = _
  unfold gelu
  rw [mul_assoc (Ideal.ofBits .f32 0x3D372713#32 * y i), mul_assoc (Ideal.ofBits .f32 0x3D372713#32), ← mul_assoc (y i)]

/-! ## The result -/

/-- The whole result. -/
def result (X W : (⟨2, ![2048, 2048]⟩ : Shape).Idx → EReal) : (⟨2, ![2048, 2048]⟩ : Shape).Idx → EReal :=
  fun i => gelu (whole X W ⟨(i 0).val, (i 0).isLt⟩ ⟨(i 1).val, (i 1).isLt⟩)

/-- Each device ends with its rows of the whole result. -/
theorem outB_block (m : (ℓ : Loc nD τ sig) → Buf (Elt Ideal) ℓ) (X W : (⟨2, ![2048, 2048]⟩ : Shape).Idx → EReal)
    (hx : ∀ c, xB m c = Layout.block ⟨2, ![2048, 128]⟩ ⟨2, ![2048, 2048]⟩ 1 16 c X tiles_cols)
    (hw : ∀ c, wB m c = Layout.block ⟨2, ![128, 2048]⟩ ⟨2, ![2048, 2048]⟩ 0 16 c W tiles_rows) (c : Fin 16) :
    outB m c = Layout.block ⟨2, ![128, 2048]⟩ ⟨2, ![2048, 2048]⟩ 0 16 c (result X W) tiles_rows := by
  funext i
  obtain ⟨a, n, rfl⟩ : ∃ (a : Fin 128) (n : Fin 2048), i = ix2 a n := ⟨_, _, eq_ix2 i⟩
  have hn := n.isLt
  have hj : n.val % 1024 / 256 < 4 := by omega
  have e : inBlk (ix2 a n) = ix2 a ⟨n.val % 256, Nat.mod_lt _ (by decide)⟩ := by
    funext b
    match b with
    | ⟨0, _⟩ => rfl
    | ⟨1, _⟩ => rfl
  show geluV (plusV (shares (xB m) (wB m) c (decide (1024 ≤ n.val)) 15) (n.val % 1024 / 256) hj
      (sumV (shares (xB m) (wB m)) (decide (1024 ≤ n.val)) (n.val % 1024 / 256) hj 14 (nb (!decide (1024 ≤ n.val)) c))) (inBlk (ix2 a n)) = _
  rw [geluV_at, e, total_at X W (xB m) (wB m) hx hw]
  show _ = gelu (whole X W _ _)
  refine congrArg gelu (congrArg₂ (whole X W) (Fin.ext ?_) (Fin.ext ?_))
  · show 128 * c.val + a.val = c.val * 128 + a.val
    omega
  · show colO (decide (1024 ≤ n.val)) + (256 * (n.val % 1024 / 256) + n.val % 256) = n.val
    by_cases h : 1024 ≤ n.val
    · rw [decide_eq_true h]; show 1024 + _ = _; omega
    · rw [decide_eq_false h]; show 0 + _ = _; omega

end Cert.Proof

end
-- ==== Proof.Agree.lean ====
/-
  The two programs' results: what the reference computes is the whole result, and each device of the kernel ends with its
  block of it.
-/
module

public import proofs.«01_k».proof.Proof.Run
public import proofs.«01_k».proof.Proof.Value
public import proofs.«01_k».proof.Proof.Gen.ReferenceIdeal.Run
public import proofs.«01_k».proof.Defs

@[expose] public section

noncomputable section

namespace Cert.Proof

open Idealize.ShloMosaic Idealize.SL.Sem
open Idealize.ShloMosaic.ValueIdx

section Reference

open Cert.ReferenceIdeal Cert.ReferenceIdeal.Gen

/-- An entry of the reference's product. -/
theorem ref_dot (X W : (⟨2, ![2048, 2048]⟩ : Shape).Idx → EReal) (r n : Fin 2048) :
    Host.dotGeneral (F := Ideal) (φ₁ := .f32) (φ₂ := .f32) dot_S2048x2048_S2048x2048_S2048x2048_1_0_0_1_n_n none X W (ix2 r n) = whole X W r n :=
  StackMember.dotGeneral_plain_apply (φ₁ := .f32) (φ₂ := .f32) none X W r n

/-- The reference's operations on its product are the activation, entry by entry. -/
theorem ref_gelu (Y : FVec Ideal S2048x2048 .f32) :
    mulf (mulf (broadcastInDim S2048x2048 ![] bcast_S_S2048x2048 (constant S_ .f32 0x3F000000#32)) Y)
      (addf (broadcastInDim S2048x2048 ![] bcast_S_S2048x2048 (constant S_ .f32 0x3F800000#32))
        (Host.tanh (mulf (broadcastInDim S2048x2048 ![] bcast_S_S2048x2048 (constant S_ .f32 0x3F4C422A#32))
          (addf Y (mulf (broadcastInDim S2048x2048 ![] bcast_S_S2048x2048 (constant S_ .f32 0x3D372713#32)) (mulf (mulf Y Y) Y))))))
      = fun i => gelu (Y i) := rfl

/-- The reference ends with the whole result. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨((h c).1.trans (ref_gelu _)).trans (funext fun i => ?_), (h c).2⟩)
    (Cert.ReferenceIdeal.Value.run (F := Ideal) m ρ)
  obtain ⟨a, n, rfl⟩ : ∃ (a n : Fin 2048), i = ix2 a n := ⟨_, _, eq_ix2 i⟩
  exact congrArg gelu (ref_dot _ _ a n)

end Reference

/-- From the same arrays, cut over the devices for the kernel, the kernel's devices end with the blocks of the reference's
    result. -/
theorem agree : Cert.algebraic_KernelIdeal_ReferenceIdeal := fun m g m' g' _ h =>
  ⟨_, (θ_run Cert.KernelIdeal.defs _ _).mono
      (fun _ r c => ⟨(r.1 c).1.trans (outB_block m _ _ (fun c => (h c).1) (fun c => (h c).2) c), (r.1 c).2⟩) (run_main (F := Ideal) m g),
    (θ_run Cert.ReferenceIdeal.defs _ _).mono (fun _ r => r 0) (ref_run m' g')⟩

end Cert.Proof

end
-- ==== Proof.lean ====
/-
  The proof of the five claims: both programs of the kernel and the reference run, from any memory with zero counters, to the
  end, with their arguments as launched and every counter at zero; the idealized kernel is the kernel's own text; and over the
  reals every device ends with its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem

/-- The idealized kernel runs to the end. -/
theorem frame_ideal : Cert.quiescent_KernelIdeal := fun m ρ _ =>
  (θ_run Cert.KernelIdeal.defs _ _).mono (fun _ h => ⟨fun c => ⟨(h.1 c).2.1, (h.1 c).2.2⟩, h.2⟩) (run_main (F := Ideal) m ρ)

/-- The reference runs to the end. -/
theorem frame_reference : Cert.quiescent_ReferenceIdeal := fun m ρ _ =>
  (θ_run Cert.ReferenceIdeal.defs _ _).mono (fun r h => ⟨fun c => ⟨(h c).2.1, (h c).2.2⟩, sem_eq_zero_of_no_sems rfl r.2⟩)
    (Cert.ReferenceIdeal.Value.run (F := Ideal) m ρ)

/-- The five claims. -/
theorem claim : Cert.Claim := ⟨Cert.Kernel.Gen.facts, Cert.KernelIdeal.Gen.facts, Cert.ReferenceIdeal.Gen.facts,
  frame_kernel, frame_ideal, frame_reference, trivial, agree⟩

end Cert.Proof

end
